-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S4x256x512 : Shape := ⟨3, ![4, 256, 512]⟩
abbrev S512x512 : Shape := ⟨2, ![512, 512]⟩
abbrev S32x256x512 : Shape := ⟨3, ![32, 256, 512]⟩
abbrev S8x32 : Shape := ⟨2, ![8, 32]⟩
abbrev S7 : Shape := ⟨1, ![7]⟩
abbrev S8 : Shape := ⟨1, ![8]⟩
abbrev S_ : Shape := ⟨0, ![]⟩
abbrev S512x32 : Shape := ⟨2, ![512, 32]⟩
abbrev S32 : Shape := ⟨1, ![32]⟩
abbrev S1x32 : Shape := ⟨2, ![1, 32]⟩
abbrev S1 : Shape := ⟨1, ![1]⟩
abbrev S1x256x512 : Shape := ⟨3, ![1, 256, 512]⟩
abbrev S256x512 : Shape := ⟨2, ![256, 512]⟩
abbrev S512 : Shape := ⟨1, ![512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S4x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S4x256x512, .bf16⟩
  | .local _ .vmem, ⟨3, _⟩ => ⟨S512x512, .f32⟩
  | .local _ .vmem, ⟨4, _⟩ => ⟨S32x256x512, .bf16⟩
  | .local _ .vmem, ⟨5, _⟩ => ⟨S8x32, .i32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v40 : Index := Scalar.indexCast v2
  let c0_30 : Index := 0#32
  ![v40.toNat, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v46 : BitVec 32 := Scalar.muli v2 c4_i32_33
  let c0_i32_37 : BitVec 32 := 0#32
  let c0_i32_38 : BitVec 32 := 0#32
  ![v46.toNat, 0, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v44 : BitVec 32 := Scalar.addi v2 c1_i32_31
  let c8_i32_32 : BitVec 32 := 8#32
  let v45 : BitVec 32 := Scalar.remsi v44 c8_i32_32
  let c1_i32_35 : BitVec 32 := 1#32
  let v47 : BitVec 32 := Scalar.muli v45 c1_i32_35
  let v48 : BitVec 32 := Scalar.addi c0_i32_36 v47
  v48.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  ![v2.toNat, 0]
def k0_dev9 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v44 : BitVec 32 := Scalar.addi v2 c1_i32_31
  let c8_i32_32 : BitVec 32 := 8#32
  let v45 : BitVec 32 := Scalar.remsi v44 c8_i32_32
  let c1_i32_40 : BitVec 32 := 1#32
  let v54 : BitVec 32 := Scalar.muli v45 c1_i32_40
  let v55 : BitVec 32 := Scalar.addi c0_i32_41 v54
  v55.toNat
def k0_dev10 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v62 : BitVec 32 := Scalar.addi v2 c2_i32_44
  let c8_i32_45 : BitVec 32 := 8#32
  let v63 : BitVec 32 := Scalar.remsi v62 c8_i32_45
  let c1_i32_48 : BitVec 32 := 1#32
  let v65 : BitVec 32 := Scalar.muli v63 c1_i32_48
  let v66 : BitVec 32 := Scalar.addi c0_i32_49 v65
  v66.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v62 : BitVec 32 := Scalar.addi v2 c2_i32_44
  let c8_i32_45 : BitVec 32 := 8#32
  let v63 : BitVec 32 := Scalar.remsi v62 c8_i32_45
  let c1_i32_53 : BitVec 32 := 1#32
  let v72 : BitVec 32 := Scalar.muli v63 c1_i32_53
  let v73 : BitVec 32 := Scalar.addi c0_i32_54 v72
  v73.toNat
def k0_dev12 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v80 : BitVec 32 := Scalar.addi v2 c3_i32_57
  let c8_i32_58 : BitVec 32 := 8#32
  let v81 : BitVec 32 := Scalar.remsi v80 c8_i32_58
  let c1_i32_61 : BitVec 32 := 1#32
  let v83 : BitVec 32 := Scalar.muli v81 c1_i32_61
  let v84 : BitVec 32 := Scalar.addi c0_i32_62 v83
  v84.toNat
def k0_dev13 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v80 : BitVec 32 := Scalar.addi v2 c3_i32_57
  let c8_i32_58 : BitVec 32 := 8#32
  let v81 : BitVec 32 := Scalar.remsi v80 c8_i32_58
  let c1_i32_66 : BitVec 32 := 1#32
  let v90 : BitVec 32 := Scalar.muli v81 c1_i32_66
  let v91 : BitVec 32 := Scalar.addi c0_i32_67 v90
  v91.toNat
def k0_dev14 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v98 : BitVec 32 := Scalar.addi v2 c4_i32_70
  let c8_i32_71 : BitVec 32 := 8#32
  let v99 : BitVec 32 := Scalar.remsi v98 c8_i32_71
  let c1_i32_74 : BitVec 32 := 1#32
  let v101 : BitVec 32 := Scalar.muli v99 c1_i32_74
  let v102 : BitVec 32 := Scalar.addi c0_i32_75 v101
  v102.toNat
def k0_dev15 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v98 : BitVec 32 := Scalar.addi v2 c4_i32_70
  let c8_i32_71 : BitVec 32 := 8#32
  let v99 : BitVec 32 := Scalar.remsi v98 c8_i32_71
  let c1_i32_79 : BitVec 32 := 1#32
  let v108 : BitVec 32 := Scalar.muli v99 c1_i32_79
  let v109 : BitVec 32 := Scalar.addi c0_i32_80 v108
  v109.toNat
def k0_dev16 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_83 : BitVec 32 := 5#32
  let v116 : BitVec 32 := Scalar.addi v2 c5_i32_83
  let c8_i32_84 : BitVec 32 := 8#32
  let v117 : BitVec 32 := Scalar.remsi v116 c8_i32_84
  let c1_i32_87 : BitVec 32 := 1#32
  let v119 : BitVec 32 := Scalar.muli v117 c1_i32_87
  let v120 : BitVec 32 := Scalar.addi c0_i32_88 v119
  v120.toNat
def k0_dev17 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_83 : BitVec 32 := 5#32
  let v116 : BitVec 32 := Scalar.addi v2 c5_i32_83
  let c8_i32_84 : BitVec 32 := 8#32
  let v117 : BitVec 32 := Scalar.remsi v116 c8_i32_84
  let c1_i32_92 : BitVec 32 := 1#32
  let v126 : BitVec 32 := Scalar.muli v117 c1_i32_92
  let v127 : BitVec 32 := Scalar.addi c0_i32_93 v126
  v127.toNat
def k0_dev18 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_96 : BitVec 32 := 6#32
  let v134 : BitVec 32 := Scalar.addi v2 c6_i32_96
  let c8_i32_97 : BitVec 32 := 8#32
  let v135 : BitVec 32 := Scalar.remsi v134 c8_i32_97
  let c1_i32_100 : BitVec 32 := 1#32
  let v137 : BitVec 32 := Scalar.muli v135 c1_i32_100
  let v138 : BitVec 32 := Scalar.addi c0_i32_101 v137
  v138.toNat
def k0_dev19 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_96 : BitVec 32 := 6#32
  let v134 : BitVec 32 := Scalar.addi v2 c6_i32_96
  let c8_i32_97 : BitVec 32 := 8#32
  let v135 : BitVec 32 := Scalar.remsi v134 c8_i32_97
  let c1_i32_105 : BitVec 32 := 1#32
  let v144 : BitVec 32 := Scalar.muli v135 c1_i32_105
  let v145 : BitVec 32 := Scalar.addi c0_i32_106 v144
  v145.toNat
def k0_dev20 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_109 : BitVec 32 := 7#32
  let v152 : BitVec 32 := Scalar.addi v2 c7_i32_109
  let c8_i32_110 : BitVec 32 := 8#32
  let v153 : BitVec 32 := Scalar.remsi v152 c8_i32_110
  let c1_i32_113 : BitVec 32 := 1#32
  let v155 : BitVec 32 := Scalar.muli v153 c1_i32_113
  let v156 : BitVec 32 := Scalar.addi c0_i32_114 v155
  v156.toNat
def k0_dev21 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_109 : BitVec 32 := 7#32
  let v152 : BitVec 32 := Scalar.addi v2 c7_i32_109
  let c8_i32_110 : BitVec 32 := 8#32
  let v153 : BitVec 32 := Scalar.remsi v152 c8_i32_110
  let c1_i32_118 : BitVec 32 := 1#32
  let v162 : BitVec 32 := Scalar.muli v153 c1_i32_118
  let v163 : BitVec 32 := Scalar.addi c0_i32_119 v162
  v163.toNat
def k0_off5 (d0 : Dev nD) (c1_i32_149 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.addi v2 c1_i32_149
  let c8_i32_150 : BitVec 32 := 8#32
  let v237 : BitVec 32 := Scalar.remsi v236 c8_i32_150
  ![v237.toNat]
def k0_off6 (d0 : Dev nD) (c1_i32_149 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.addi v2 c1_i32_149
  let c8_i32_150 : BitVec 32 := 8#32
  let v237 : BitVec 32 := Scalar.remsi v236 c8_i32_150
  let c4_i32_151 : BitVec 32 := 4#32
  let v238 : BitVec 32 := Scalar.muli v237 c4_i32_151
  let c0_i32_155 : BitVec 32 := 0#32
  let c0_i32_156 : BitVec 32 := 0#32
  ![v238.toNat, 0, 0]
def k0_off7 (d0 : Dev nD) (c1_i32_149 : BitVec 32) (c0_i32_160 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v236 : BitVec 32 := Scalar.addi v2 c1_i32_149
  let c8_i32_150 : BitVec 32 := 8#32
  let v237 : BitVec 32 := Scalar.remsi v236 c8_i32_150
  let c4_i32_159 : BitVec 32 := 4#32
  let v250 : BitVec 32 := Scalar.muli v237 c4_i32_159
  let v251 : BitVec 32 := Scalar.addi v250 c0_i32_160
  let v252 : Index := Scalar.indexCast v251
  let c0_161 : Index := 0#32
  let c0_162 : Index := 0#32
  ![v252.toNat, 0, 0]
def k0_off8 (d0 : Dev nD) (c1_i32_401 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v712 : BitVec 32 := Scalar.addi v2 c1_i32_401
  let c8_i32_402 : BitVec 32 := 8#32
  let v713 : BitVec 32 := Scalar.remsi v712 c8_i32_402
  let c0_i32_406 : BitVec 32 := 0#32
  ![v713.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x256 : Shape := ⟨2, ![4096, 256]⟩
abbrev S256x32 : Shape := ⟨2, ![256, 32]⟩
abbrev S4096x1 : Shape := ⟨2, ![4096, 1]⟩
abbrev S32x256x512 : Shape := ⟨3, ![32, 256, 512]⟩
abbrev S32 : Shape := ⟨1, ![32]⟩
abbrev S1x32 : Shape := ⟨2, ![1, 32]⟩
abbrev S4096x32 : Shape := ⟨2, ![4096, 32]⟩
abbrev S_ : Shape := ⟨0, ![]⟩
abbrev S4096x32x512 : Shape := ⟨3, ![4096, 32, 512]⟩
abbrev S4096x32x1 : Shape := ⟨3, ![4096, 32, 1]⟩
abbrev S4096x512 : Shape := ⟨2, ![4096, 512]⟩

abbrev nBuf : Space → Nat
  | .hbm => 29
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x32, .bf16⟩
  | .hbm, ⟨2, _⟩ => ⟨S4096x1, .i32⟩
  | .hbm, ⟨3, _⟩ => ⟨S32x256x512, .bf16⟩
  | .hbm, ⟨4, _⟩ => ⟨S32, .i32⟩
  | .hbm, ⟨5, _⟩ => ⟨S1x32, .i32⟩
  | .hbm, ⟨6, _⟩ => ⟨S4096x32, .i32⟩
  | .hbm, ⟨7, _⟩ => ⟨S4096x32, .i32⟩
  | .hbm, ⟨8, _⟩ => ⟨S4096x32, .i1⟩
  | .hbm, ⟨9, _⟩ => ⟨S4096x32, .i32⟩
  | .hbm, ⟨10, _⟩ => ⟨S_, .i32⟩
  | .hbm, ⟨11, _⟩ => ⟨S_, .i32⟩
  | .hbm, ⟨12, _⟩ => ⟨S4096x32, .i32⟩
  | .hbm, ⟨13, _⟩ => ⟨S4096x32, .i32⟩
  | .hbm, ⟨14, _⟩ => ⟨S_, .i32⟩
  | .hbm, ⟨15, _⟩ => ⟨S4096x32, .i32⟩
  | .hbm, ⟨16, _⟩ => ⟨S4096x32, .i1⟩
  | .hbm, ⟨17, _⟩ => ⟨S4096x32, .i1⟩
  | .hbm, ⟨18, _⟩ => ⟨S4096x256, .f32⟩
  | .hbm, ⟨19, _⟩ => ⟨S32x256x512, .f32⟩
  | .hbm, ⟨20, _⟩ => ⟨S4096x32x512, .f32⟩
  | .hbm, ⟨21, _⟩ => ⟨S4096x32x1, .i1⟩
  | .hbm, ⟨22, _⟩ => ⟨S_, .f32⟩
  | .hbm, ⟨23, _⟩ => ⟨S_, .f32⟩
  | .hbm, ⟨24, _⟩ => ⟨S4096x32x512, .i1⟩
  | .hbm, ⟨25, _⟩ => ⟨S4096x32x512, .f32⟩
  | .hbm, ⟨26, _⟩ => ⟨S4096x32x512, .f32⟩
  | .hbm, ⟨27, _⟩ => ⟨S_, .f32⟩
  | .hbm, ⟨28, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.KernelIdealCommon.lean ====
/-
# `KernelIdealCommon`: the vocabulary of the multi-device run

The kernel's protocol, stated once at a symbolic device `c`. Device `c`'s peers are `peer c r` for `r = 0 … 6`.

* Barrier cell of `c`: seven units, one from every other device `q`. `q`'s unit hands `c` the places of `q`'s gather
  buffers that `c` will fill: `q`'s expert window `c` and `q`'s counts row `c`, at any contents.
* Send cells `r` of `c` (one for the expert blocks, one for the counts): the transfer to `peer c r` returns the read
  share it borrowed of its source.
* Receive cells `s` of `c` (one for the expert blocks, one for the counts): the transfer from `s` lands, and hands over
  `c`'s window `s` holding device `s`'s four experts, or `c`'s row `s` holding device `s`'s counts.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Pipeline.ValueKit.Geometry
public import Idealize.ShloMosaic.Lib.Transfers
public import Idealize.ShloMosaic.Lib.ValueIdxCore
public import Idealize.ShloMosaic.Lib.Tactic

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)
open Idealize.ShloMosaic.Pipeline (Dat Cfg Window BodyObligation cellOf)
open Idealize.ShloMosaic.ValueIdx (ix1 ix2 ix3)

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: the contents `m`, every semaphore counter zero, any generator registers. -/
def s₀ : MemSt nD τ sig (Elt F) := ⟨m, fun _ => 0, ρ⟩

/-! ## Peers -/

/-- The device `r + 1` places after `c` around the mesh. -/
def peer (c : Dev nD) (r : Fin 7) : Dev nD := ⟨(c.val + r.val + 1) % 8, Nat.mod_lt _ (by show 0 < 8; decide)⟩

/-- The seven peers' numbers. -/
abbrev ks : List (Fin 7) := [0, 1, 2, 3, 4, 5, 6]

theorem peer_ne (c : Dev nD) (r : Fin 7) : peer c r ≠ c := fun h => by
  have h1 : (c.val + r.val + 1) % 8 = c.val := congrArg Fin.val h
  have h2 : c.val < 8 := c.isLt
  omega

/-- All devices are `c` and its seven peers. -/
theorem univ_peers (c : Dev nD) : (Finset.univ : Finset (Dev nD)) = (c :: ks.map (peer c)).toFinset := by revert c; decide
theorem erase_peers (c : Dev nD) : (Finset.univ.erase c : Finset (Dev nD)) = (ks.map (peer c)).toFinset := by revert c; decide
theorem nodup_peers (c : Dev nD) : (c :: ks.map (peer c)).Nodup := by revert c; decide

omit [FloatOps F] in
theorem bigSep_dev (c : Dev nD) (Φ : Dev nD → sProp 𝕄) :
    bigSep Finset.univ Φ = iprop(Φ c ∗ bigSepL ks fun r => Φ (peer c r)) := by
  rw [bigSep_univ_eq_bigSepL _ (univ_peers c) (nodup_peers c), bigSepL_cons', BI.bigSepL_map]
omit [FloatOps F] in
theorem bigSep_others (c : Dev nD) (Φ : Dev nD → sProp 𝕄) :
    bigSep (Finset.univ.erase c) Φ = bigSepL ks fun r => Φ (peer c r) := by
  rw [bigSep_eq_bigSepL_of_eq _ (erase_peers c) (nodup_peers c).of_cons, BI.bigSepL_map]

/-! ## The cells -/

/-- The barrier semaphore (the runtime's, outside the launch's scope). -/
abbrev barS : Sem sig := (SemArray.scalar (sig.barrier 0 rfl) : Sems sig S_).sem

/-- A device's transfer cells: for the expert blocks, then for the counts, a send cell per peer number and a receive
    cell per device. -/
abbrev CJ : Type := (Fin 7 ⊕ Dev nD) ⊕ (Fin 7 ⊕ Dev nD)
/-- All of a device's cells: the barrier and the transfer cells. -/
abbrev CK : Type := Unit ⊕ CJ

abbrev bar : CK := .inl ()
abbrev sw (r : Fin 7) : CK := .inr (.inl (.inl r))
abbrev rw' (s : Dev nD) : CK := .inr (.inl (.inr s))
abbrev sc (r : Fin 7) : CK := .inr (.inr (.inl r))
abbrev rc (s : Dev nD) : CK := .inr (.inr (.inr s))

/-- A cell's semaphore. -/
def csem : CK → SemLoc sig
  | .inl _ => .reg barS
  | .inr (.inl (.inl r)) => .dma ⟨4 + r.val, by show 4 + r.val < 34; omega⟩
  | .inr (.inl (.inr s)) => .dma ⟨11 + s.val, by have := s.isLt; show 11 + s.val < 34; change s.val < 8 at this; omega⟩
  | .inr (.inr (.inl r)) => .dma ⟨19 + r.val, by show 19 + r.val < 34; omega⟩
  | .inr (.inr (.inr s)) => .dma ⟨26 + s.val, by have := s.isLt; show 26 + s.val < 34; change s.val < 8 at this; omega⟩

/-- The cell a semaphore is, if it is one of these. -/
def kindOf : SemLoc sig → Option CK
  | .reg s => if s = barS then some bar else none
  | .dma q =>
    if q.val < 4 then none
    else if h : q.val - 4 < 7 then some (sw ⟨q.val - 4, h⟩)
    else if h : q.val - 11 < 8 then some (rw' ⟨q.val - 11, h⟩)
    else if h : q.val - 19 < 7 then some (sc ⟨q.val - 19, h⟩)
    else if h : q.val - 26 < 8 then some (rc ⟨q.val - 26, h⟩)
    else none

theorem kindOf_csem : ∀ k : CK, kindOf (csem k) = some k := by decide

theorem csem_injective : Function.Injective csem := fun a b h =>
  Option.some.inj ((kindOf_csem a).symm.trans ((congrArg kindOf h).trans (kindOf_csem b)))

/-- Device `c`'s cell `k`. -/
abbrev cell (c : Dev nD) (k : CK) : GSem nD τ sig := ((c : Thread nD τ), csem k)

theorem cell_inj {c c' : Dev nD} {k k' : CK} (h : cell c k = cell c' k') : c = c' ∧ k = k' :=
  ⟨congrArg (fun g : GSem nD τ sig => g.1.1) h, csem_injective (congrArg Prod.snd h)⟩

/-! ## The windows of the gather buffers -/

abbrev xM : Memref sig .tc .vmem S512x256 .bf16 := Memref.whole cc0_stg0_0
abbrev iM : Memref sig .tc .vmem S512x1 .i32 := Memref.whole cc0_stg1_0
abbrev wM : Memref sig .tc .vmem S4x256x512 .bf16 := Memref.whole cc0_stg2_0
abbrev oM : Memref sig .tc .vmem S512x512 .f32 := Memref.whole cc0_stg3_0
abbrev gM : Memref sig .tc .vmem S32x256x512 .bf16 := Memref.whole cc0_scratch0
abbrev cM : Memref sig .tc .vmem S8x32 .i32 := Memref.whole cc0_scratch1

/-- The window of the expert buffer that device `s` fills, the row of the counts buffer that it fills. -/
abbrev gW (s : Dev nD) : Memref sig .tc .vmem S4x256x512 .bf16 :=
  gM.slice (Rect.unit (s := S32x256x512) (k0_off3 s) S4x256x512.size (k0_off3_inb s)) (fun _ => rfl)
abbrev cW (s : Dev nD) : Memref sig .tc .vmem S1x32 .i32 :=
  cM.slice (Rect.unit (s := S8x32) (k0_off4 s) S1x32.size (k0_off4_inb s)) (fun _ => rfl)

/-- Their elements. -/
def gSet (s : Dev nD) : Finset S32x256x512.Idx := (gW s).view.set
def cSet (s : Dev nD) : Finset S8x32.Idx := (cW s).view.set

theorem mem_gSet {s : Dev nD} {i : S32x256x512.Idx} : i ∈ gSet s ↔ (i 0).val / 4 = s.val := by
  unfold gSet
  refine (ValueKit.mem_set_slice_whole_iff cc0_scratch0 _ i Rect.mem_set_unit).trans ?_
  rw [k0_off3_eq]
  have h1 : (i 1).val < 256 := (i 1).isLt
  have h2 : (i 2).val < 512 := (i 2).isLt
  constructor
  · intro h
    have h0 : 4 * s.val ≤ (i 0).val ∧ (i 0).val < 4 * s.val + 4 := h 0
    omega
  · intro h a
    match a with
    | ⟨0, _⟩ => show 4 * s.val ≤ (i 0).val ∧ (i 0).val < 4 * s.val + 4; omega
    | ⟨1, _⟩ => show 0 ≤ (i 1).val ∧ (i 1).val < 0 + 256; omega
    | ⟨2, _⟩ => show 0 ≤ (i 2).val ∧ (i 2).val < 0 + 512; omega

theorem mem_cSet {s : Dev nD} {i : S8x32.Idx} : i ∈ cSet s ↔ (i 0).val = s.val := by
  unfold cSet
  refine (ValueKit.mem_set_slice_whole_iff cc0_scratch1 _ i Rect.mem_set_unit).trans ?_
  rw [k0_off4_eq]
  have h1 : (i 1).val < 32 := (i 1).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 32; omega

theorem gSet_disj {s t : Dev nD} (h : s ≠ t) : Disjoint (gSet s) (gSet t) :=
  Finset.disjoint_left.mpr fun i hi hj => h (Fin.ext ((mem_gSet.mp hi).symm.trans (mem_gSet.mp hj)))
theorem cSet_disj {s t : Dev nD} (h : s ≠ t) : Disjoint (cSet s) (cSet t) :=
  Finset.disjoint_left.mpr fun i hi hj => h (Fin.ext ((mem_cSet.mp hi).symm.trans (mem_cSet.mp hj)))
theorem gSet_cover : (Finset.univ : Finset (Dev nD)).biUnion gSet = Finset.univ := by
  ext i
  have h0 : (i 0).val < 32 := (i 0).isLt
  exact ⟨fun _ => Finset.mem_univ _, fun _ => Finset.mem_biUnion.mpr ⟨⟨(i 0).val / 4, by show _ < 8; omega⟩, Finset.mem_univ _, mem_gSet.mpr rfl⟩⟩
theorem cSet_cover : (Finset.univ : Finset (Dev nD)).biUnion cSet = Finset.univ := by
  ext i
  have h0 : (i 0).val < 8 := (i 0).isLt
  exact ⟨fun _ => Finset.mem_univ _, fun _ => Finset.mem_biUnion.mpr ⟨⟨(i 0).val, h0⟩, Finset.mem_univ _, mem_cSet.mpr rfl⟩⟩

/-! ## Contents -/

/-- Device `c`'s tokens, route indices and own four experts, as staged. -/
def xstg (c : Dev nD) : Vec F S512x256 .bf16 := (win0_0.blk (0 : Fin 1)).view.read (Elt F) ((s₀ m ρ).mem ((c : Thread nD τ).loc main_arg0))
def istg (c : Dev nD) : Vec F S512x1 .i32 := (win0_1.blk (0 : Fin 1)).view.read (Elt F) ((s₀ m ρ).mem ((c : Thread nD τ).loc main_arg2))
def wstg (c : Dev nD) : Vec F S4x256x512 .bf16 := (win0_2.blk (0 : Fin 1)).view.read (Elt F) ((s₀ m ρ).mem ((c : Thread nD τ).loc main_arg3))

/-- The gathered experts: expert `e` is expert `e % 4` of device `e / 4`. The same on every device. -/
def wall : Vec F S32x256x512 .bf16 := fun i =>
  wstg m ρ ⟨(i 0).val / 4, by have h : (i 0).val < 32 := (i 0).isLt; show _ < 8; omega⟩ (ix3 ⟨(i 0).val % 4, Nat.mod_lt _ (by decide)⟩ (i 1) (i 2))
/-- The gathered counts: row `s` is how many of device `s`'s tokens go to each expert. The same on every device. -/
def call : Vec F S8x32 .i32 := fun i =>
  k0_pay3 (istg m ρ ⟨(i 0).val, (i 0).isLt⟩) (ix2 0 (i 1))

/-- Device `c`'s window `s` and row `s`, its staged experts and its own counts row at a share. -/
def gPts (c s : Dev nD) (f : Vec F S32x256x512 .bf16) : sProp 𝕄 := (c : Thread nD τ).loc cc0_scratch0 ↦[gSet s]{fullShare} f
def cPts (c s : Dev nD) (q : PosShare TreeShare) (f : Vec F S8x32 .i32) : sProp 𝕄 := (c : Thread nD τ).loc cc0_scratch1 ↦[cSet s]{q} f
def wPts (c : Dev nD) (q : PosShare TreeShare) : sProp 𝕄 := (c : Thread nD τ).loc cc0_stg2_0 ↦{q} wstg m ρ c

omit [FloatOps F] in
instance gPts_storable (c s : Dev nD) (f) : BI.Storable (upEmb : UEmb _ 𝕄) (gPts (F := F) c s f) := by unfold gPts; infer_instance
omit [FloatOps F] in
instance cPts_storable (c s : Dev nD) (q) (f) : BI.Storable (upEmb : UEmb _ 𝕄) (cPts (F := F) c s q f) := by unfold cPts; infer_instance
omit [FloatOps F] in
instance wPts_storable (c : Dev nD) (q) : BI.Storable (upEmb : UEmb _ 𝕄) (wPts m ρ c q) := by unfold wPts; infer_instance

/-! ## The schedule -/

abbrev NW : ℕ := (gW 0).view.dmaCredit
abbrev NC : ℕ := (cW 0).view.dmaCredit
theorem NW_pos : 0 < NW := View.dmaCredit_pos _ (by decide)
theorem NC_pos : 0 < NC := View.dmaCredit_pos _ (by decide)

/-- The duties of a cell of `c`'s: at the barrier one per other device; at a transfer cell one, none at the receive
    cells named after `c` itself, which no transfer uses. -/
def dutiesOf (c : Dev nD) : CK → Finset (Dev nD)
  | .inl _ => Finset.univ.erase c
  | .inr (.inl (.inl _)) => {0}
  | .inr (.inl (.inr s)) => if s = c then ∅ else {0}
  | .inr (.inr (.inl _)) => {0}
  | .inr (.inr (.inr s)) => if s = c then ∅ else {0}

def amtOf : CK → ℕ
  | .inl _ => 1
  | .inr (.inl _) => NW
  | .inr (.inr _) => NC

/-- What each duty hands over. -/
def payOf (c : Dev nD) (q : Dev nD) : CK → sProp 𝕄
  | .inl _ => iprop((∃ f, gPts q c f) ∗ ∃ f, cPts q c fullShare f)
  | .inr (.inl (.inl r)) => wPts m ρ c (shareTokN fullShare r.val)
  | .inr (.inl (.inr s)) => gPts c s (wall m ρ)
  | .inr (.inr (.inl r)) => cPts c c (shareTokN fullShare r.val) (call m ρ)
  | .inr (.inr (.inr s)) => cPts c s fullShare (call m ρ)

instance payOf_storable (c q : Dev nD) (k : CK) : BI.Storable (upEmb : UEmb _ 𝕄) (payOf m ρ c q k) := by
  rcases k with _ | ((r | s) | (r | s)) <;> unfold payOf <;> infer_instance

theorem amtOf_pos (k : CK) : 0 < amtOf k := by
  rcases k with _ | (_ | _)
  · exact Nat.one_pos
  · exact NW_pos
  · exact NC_pos

/-- One round, round 0. -/
def Rd : Rounds.Schedule (GSem nD τ sig) (Dev nD) 𝕄 where
  duties g r := if r = 0 ∧ g.1.2 = .tc then (kindOf g.2).elim ∅ (dutiesOf g.1.1) else ∅
  unitless _ := False
  amount g _ _ := (kindOf g.2).elim 1 amtOf
  payload g _ q := (kindOf g.2).elim iprop(emp) (payOf m ρ g.1.1 q)
  amount_pos g _ _ _ := by
    cases h : kindOf g.2 with
    | none => exact Nat.one_pos
    | some k => exact amtOf_pos k

instance Rd_payload_storable (g : GSem nD τ sig) (r : ℕ) (d : Dev nD) :
    BI.Storable (upEmb : UEmb _ 𝕄) ((Rd (F := F) m ρ).payload g r d) := by
  show BI.Storable upEmb ((kindOf g.2).elim iprop(emp) (payOf m ρ g.1.1 d))
  cases h : kindOf g.2 with
  | none => show BI.Storable upEmb (iprop(emp) : sProp 𝕄); infer_instance
  | some k => show BI.Storable upEmb (payOf m ρ g.1.1 d k); infer_instance

section Sched
variable (c : Dev nD) (k : CK)

theorem duties_cell : (Rd (F := F) m ρ).duties (cell c k) 0 = dutiesOf c k := by
  show (if (0 : ℕ) = 0 ∧ (Proc.tc : Proc τ) = .tc then (kindOf (csem k)).elim ∅ (dutiesOf c) else ∅) = _
  rw [if_pos ⟨rfl, rfl⟩, kindOf_csem]; rfl
theorem duties_later (g : GSem nD τ sig) : ∀ r, 1 ≤ r → (Rd (F := F) m ρ).duties g r = ∅ :=
  fun r hr => if_neg fun h => by omega
theorem amount_cell (d : Dev nD) : (Rd (F := F) m ρ).amount (cell c k) 0 d = amtOf k := by
  show (kindOf (csem k)).elim 1 amtOf = _
  rw [kindOf_csem]; rfl
theorem payload_cell (d : Dev nD) : (Rd (F := F) m ρ).payload (cell c k) 0 d = payOf m ρ c d k := by
  show (kindOf (csem k)).elim iprop(emp) (payOf m ρ c d) = _
  rw [kindOf_csem]; rfl

theorem expect_bar : (Rd (F := F) m ρ).expect (cell c bar) 0 = 7 := by
  unfold Schedule.expect Schedule.amountOf
  rw [duties_cell, Finset.sum_congr rfl fun d _ => amount_cell m ρ c bar d]
  show (∑ _ ∈ Finset.univ.erase c, 1) = 7
  rw [Finset.sum_const, smul_eq_mul, Nat.mul_one]
  revert c; decide

/-- A cell of one duty: its whole round is that duty's amount and payload. -/
theorem expect_one (h : dutiesOf c k = {0}) : (Rd (F := F) m ρ).expect (cell c k) 0 = amtOf k := by
  unfold Schedule.expect Schedule.amountOf; rw [duties_cell, h, Finset.sum_singleton, amount_cell]
theorem rest_one (h : dutiesOf c k = {0}) :
    bigSep ((Rd (F := F) m ρ).duties (cell c k) 0 \ ∅) (fun d => (Rd (F := F) m ρ).payload (cell c k) 0 d) = payOf m ρ c 0 k := by
  rw [Finset.sdiff_empty, duties_cell, h, bigSep_singleton, payload_cell]
theorem rest_bar :
    bigSep ((Rd (F := F) m ρ).duties (cell c bar) 0 \ ∅) (fun d => (Rd (F := F) m ρ).payload (cell c bar) 0 d)
      = bigSepL ks fun r => payOf m ρ c (peer c r) bar := by
  rw [Finset.sdiff_empty, duties_cell, show dutiesOf c bar = Finset.univ.erase c from rfl, bigSep_others]
  simp only [payload_cell]

end Sched

/-! ## What each core owes at launch; the levels -/

/-- The receive credits owed to the peers numbered in the list, the first peer's expert block outermost. -/
def sendDue (c : Dev nD) : List (Fin 7) → CellTallies nD τ sig Unit
  | [] => 0
  | r :: l => (sendDue c l + tallyAt (cell (peer c r) (rc c)) () NC) + tallyAt (cell (peer c r) (rw' c)) () NW
/-- The barrier units owed to the peers numbered in the list, the first peer's outermost, over all the receive credits. -/
def sigDue (c : Dev nD) : List (Fin 7) → CellTallies nD τ sig Unit
  | [] => sendDue c ks
  | r :: l => sigDue c l + tallyAt (cell (peer c r) bar) () 1
def O₀ (c : Dev nD) : CellTallies nD τ sig Unit := sigDue c ks

def L (g : GSem nD τ sig) : Finset Unit := if g.1.2 = .tc then {()} else ∅
def lvK : CK → ℕ
  | .inl _ => 1
  | .inr (.inl (.inl _)) => 0
  | .inr (.inl (.inr _)) => 2
  | .inr (.inr (.inl _)) => 0
  | .inr (.inr (.inr _)) => 2
/-- Barrier cells at 1, receive cells at 2, everything else at 0. -/
def lv (g : GSem nD τ sig) (_ : Unit) : ℕ := (kindOf g.2).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) : lv (cell c k) () = lvK k := by
  show (kindOf (csem k)).elim 0 lvK = _
  rw [kindOf_csem]; rfl

theorem tallyAt_pos_eq {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem sendDue_pos {c : Dev nD} {l : List (Fin 7)} {g : GSem nD τ sig} {u : Unit} (h : 0 < sendDue c l g u) :
    ∃ (d : Dev nD) (k : CK), g = cell d k ∧ lvK k = 2 := by
  induction l with
  | nil => exact absurd h (Nat.lt_irrefl 0)
  | cons r l ih =>
    unfold sendDue at h
    rw [Pi.add_apply, Finsupp.add_apply, Pi.add_apply, Finsupp.add_apply] at h
    rcases Nat.add_pos_iff_pos_or_pos.mp h with h | h
    · rcases Nat.add_pos_iff_pos_or_pos.mp h with h | h
      · exact ih h
      · exact ⟨_, _, tallyAt_pos_eq h, rfl⟩
    · exact ⟨_, _, tallyAt_pos_eq h, rfl⟩

theorem sigDue_pos {c : Dev nD} {l : List (Fin 7)} {g : GSem nD τ sig} {u : Unit} (h : 0 < sigDue c l g u) :
    ∃ (d : Dev nD) (k : CK), g = cell d k ∧ 0 < lvK k := by
  induction l with
  | nil => obtain ⟨d, k, hg, hk⟩ := sendDue_pos h; exact ⟨d, k, hg, by omega⟩
  | cons r l ih =>
    unfold sigDue at h
    rw [Pi.add_apply, Finsupp.add_apply] at h
    rcases Nat.add_pos_iff_pos_or_pos.mp h with h | h
    · exact ih h
    · exact ⟨_, _, tallyAt_pos_eq h, Nat.one_pos⟩

omit [FloatOps F] in
/-- The pipeline's own waits happen below everything a core owes. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, _⟩ := sigDue_pos hg; exact Finset.mem_singleton_self _)
      (fun p hp => by
        rw [Finset.mem_singleton.mp hp]
        show (kindOf (.dma q)).elim 0 lvK ≤ 0
        rw [show kindOf (.dma q) = none from if_pos hq]; exact Nat.le_refl 0)
      (fun g u hg => by obtain ⟨d, k, rfl, hk⟩ := sigDue_pos hg; rw [lv_cell]; exact hk)
  · rw [MayWait_zero]; iintro -; iempintro

omit [FloatOps F] in
/-- At its barrier wait a device owes receive credits only, all above its barrier cell. -/
theorem mayWait_bar (c : Dev nD) : (levAts L lv : sProp 𝕄) ⊢ MayWait (c : Thread nD τ) (csem bar) () (sendDue c ks) :=
  MayOwe.of_cut (L := L) (lev := lv) 1 (fun p hp => by rw [Finset.mem_singleton.mp hp, L_tc]; exact Finset.mem_singleton_self _)
    (fun g u hg => by obtain ⟨d, k, rfl, _⟩ := sendDue_pos hg; exact Finset.mem_singleton_self _)
    (fun p hp => by rw [Finset.mem_singleton.mp hp]; exact Nat.le_of_eq (lv_cell c bar))
    (fun g u hg => by obtain ⟨d, k, rfl, hk⟩ := sendDue_pos hg; rw [lv_cell, hk]; decide)

end Cert.KernelIdeal.MoE

end
-- ==== Proof.KernelIdealSteps.lean ====
/-
# `KernelIdealSteps`: one rule per operation of the kernel

Each theorem executes one operation of device `c`'s program at a symbolic peer number `r` (or expert `j`), from the
resources the operation needs to those it leaves: `Sig*` a barrier unit about to be signalled, `Send*`/`Sent*` a
transfer before and after it starts, `Recv*`/`Got*` a landing before and after its wait, `Done*` a transfer's source
share back.
-/
module

public import proofs.«01_k».proof.Proof.KernelIdealCommon

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- No loop needs a variant: the launch has one point. -/
abbrev 𝒱₀ : Variants := Variants.none

/-! ## The cells' records, and the bundles -/

/-- Every cell's invariant, and that every cell has reached round 0. -/
def records : sProp 𝕄 :=
  iprop((bigSep Finset.univ fun p : Dev nD × CK => cellInv ER (Rd m ρ) (K p) (cell p.1 p.2))
    ∗ bigSep Finset.univ fun p : Dev nD × CK => reached ER (cell p.1 p.2) 0)

instance records_persistent : Persistent (records (F := F) m ρ K) := by unfold records; infer_instance

theorem inv_of (c : Dev nD) (k : CK) : records (F := F) m ρ K ⊢ cellInv ER (Rd m ρ) (K (c, k)) (cell c k) := by
  unfold records
  iintro ⟨H, -⟩
  iapply (show (bigSep Finset.univ fun p : Dev nD × CK => cellInv ER (Rd m ρ) (K p) (cell p.1 p.2)) ⊢ cellInv ER (Rd m ρ) (K (c, k)) (cell c k)
    from bigSep_elim (Finset.mem_univ (c, k))) $$ H
theorem reached_of (c : Dev nD) (k : CK) : records (F := F) m ρ K ⊢ reached ER (cell c k) 0 := by
  unfold records
  iintro ⟨-, H⟩
  iapply (show (bigSep Finset.univ fun p : Dev nD × CK => (reached ER (cell p.1 p.2) 0 : sProp 𝕄)) ⊢ reached ER (cell c k) 0
    from bigSep_elim (Finset.mem_univ (c, k))) $$ H

/-- What a core owes, its recorded waits left open. -/
def ow (c : Dev nD) (O : CellTallies nD τ sig Unit) : sProp 𝕄 := iprop(∃ W, owes (c : Thread nD τ) O W)

/-- To signal peer `r`'s barrier: the duty, and the places on `c` that the peer will fill. -/
def Sig (c : Dev nD) (r : Fin 7) : sProp 𝕄 :=
  iprop(dutyTok ER (cell (peer c r) bar) 0 c ∗ (∃ f, gPts c (peer c r) f) ∗ ∃ f, cPts c (peer c r) fullShare f)
/-- What peer `r`'s unit brings: the places on the peer that `c` fills. -/
def PlaceW (c : Dev nD) (r : Fin 7) : sProp 𝕄 := iprop(∃ f, gPts (peer c r) c f)
def PlaceC (c : Dev nD) (r : Fin 7) : sProp 𝕄 := iprop(∃ f, cPts (peer c r) c fullShare f)
/-- The barrier before and after its wait. -/
def BarW (c : Dev nD) : sProp 𝕄 := iprop(cred (tallyAt (cell c bar) () 7) ∗ atPos ER (cell c bar) 0 ∅ 0)
/-- The duties that the transfers to peer `r` pay. -/
def TokW (c : Dev nD) (r : Fin 7) : sProp 𝕄 :=
  iprop(dutyTok ER (cell c (sw r)) 0 0 ∗ dutyTok ER (cell (peer c r) (rw' c)) 0 0 ∗ atPos ER (cell c (sw r)) 0 ∅ 0)
def TokC (c : Dev nD) (r : Fin 7) : sProp 𝕄 :=
  iprop(dutyTok ER (cell c (sc r)) 0 0 ∗ dutyTok ER (cell (peer c r) (rc c)) 0 0 ∗ atPos ER (cell c (sc r)) 0 ∅ 0)
def SentW (c : Dev nD) (r : Fin 7) : sProp 𝕄 := iprop(cred (tallyAt (cell c (sw r)) () NW) ∗ atPos ER (cell c (sw r)) 0 ∅ 0)
def SentC (c : Dev nD) (r : Fin 7) : sProp 𝕄 := iprop(cred (tallyAt (cell c (sc r)) () NC) ∗ atPos ER (cell c (sc r)) 0 ∅ 0)
def DoneW (c : Dev nD) (r : Fin 7) : sProp 𝕄 := iprop(atPos ER (cell c (sw r)) 1 ∅ 0 ∗ wPts m ρ c (shareTokN fullShare r.val))
def DoneC (c : Dev nD) (r : Fin 7) : sProp 𝕄 := iprop(atPos ER (cell c (sc r)) 1 ∅ 0 ∗ cPts c c (shareTokN fullShare r.val) (call m ρ))
def RecvW (c : Dev nD) (r : Fin 7) : sProp 𝕄 :=
  iprop(cred (tallyAt (cell c (rw' (peer c r))) () NW) ∗ atPos ER (cell c (rw' (peer c r))) 0 ∅ 0)
def RecvC (c : Dev nD) (r : Fin 7) : sProp 𝕄 :=
  iprop(cred (tallyAt (cell c (rc (peer c r))) () NC) ∗ atPos ER (cell c (rc (peer c r))) 0 ∅ 0)
def GotW (c : Dev nD) (r : Fin 7) : sProp 𝕄 := iprop(atPos ER (cell c (rw' (peer c r))) 1 ∅ 0 ∗ gPts c (peer c r) (wall m ρ))
def GotC (c : Dev nD) (r : Fin 7) : sProp 𝕄 := iprop(atPos ER (cell c (rc (peer c r))) 1 ∅ 0 ∗ cPts c (peer c r) fullShare (call m ρ))

/-! ## The semaphores and devices of the printed program -/

theorem sem_send_w {i : Fin 7} {inb} : (((cc0_scratch2).slice (Rect.unit (s := S7) ![i.val] S1.size inb)).squeeze S_ squeezes_S1_S_).sem
    = (⟨4 + i.val, by show 4 + i.val < 34; omega⟩ : DmaSem sig) := by
  revert inb; revert i; decide
theorem sem_recv_w {s : Dev nD} {off inb} (h : off = ![s.val]) :
    (((cc0_scratch3).slice (Rect.unit (s := S8) off S1.size inb)).squeeze S_ squeezes_S1_S_).sem
    = (⟨11 + s.val, by have := s.isLt; change s.val < 8 at this; show 11 + s.val < 34; omega⟩ : DmaSem sig) := by
  subst h; revert inb; revert s; decide
theorem sem_send_c {i : Fin 7} {inb} : (((cc0_scratch4).slice (Rect.unit (s := S7) ![i.val] S1.size inb)).squeeze S_ squeezes_S1_S_).sem
    = (⟨19 + i.val, by show 19 + i.val < 34; omega⟩ : DmaSem sig) := by
  revert inb; revert i; decide
theorem sem_recv_c {s : Dev nD} {off inb} (h : off = ![s.val]) :
    (((cc0_scratch5).slice (Rect.unit (s := S8) off S1.size inb)).squeeze S_ squeezes_S1_S_).sem
    = (⟨26 + s.val, by have := s.isLt; change s.val < 8 at this; show 26 + s.val < 34; omega⟩ : DmaSem sig) := by
  subst h; revert inb; revert s; decide

/-! ## Barrier -/

section Steps
variable (c : Dev nD)

/-- The signal to peer `r`. -/
theorem wp_sig (r : Fin 7) (l : List (Fin 7)) (n : Dev nD) (hn : n = peer c r) {α : Type} {Q : α → sProp 𝕄} {k : PUnit → Prog (TpuEff nD τ sig (Elt F) Λ₀ .tc) α} :
    iprop(records m ρ K ∗ ow c (sigDue c (r :: l)) ∗ Sig c r)
      ⊢ iprop(((ow c (sigDue c l) -∗ wp frame (wpE (defs₀ (F := F)) 𝒱₀ (c : Thread nD τ) none) Set.univ (k ⟨⟩) Q))
          -∗ wp frame (wpE (defs₀ (F := F)) 𝒱₀ (c : Thread nD τ) none) Set.univ (.op (.semSignal (n, .tc) barS (BitVec.toInt 1#32)) k) Q) := by
  subst hn
  unfold ow Sig
  iintro ⟨#HR, ⟨%W, HO⟩, Htok, Hg, Hc⟩ Hk
  iapply (Rounds.wp_signal 𝒱₀ ER (Rd m ρ) (c : Thread nD τ) none (dst := (peer c r : Thread nD τ)) (κ := K (peer c r, bar))
      (d := c) (by rw [show (((peer c r : Dev nD) : Thread nD τ), SemLoc.reg barS) = cell (peer c r) bar from rfl, duties_cell]
                   exact Finset.mem_erase.mpr ⟨(peer_ne c r).symm, Finset.mem_univ _⟩)
      ((amount_cell m ρ (peer c r) bar c).trans (by decide)) () (sigDue c l) rfl)
    $$ [HO Htok Hg Hc]
  · isplitr; · iapply (inv_of m ρ K (peer c r) bar) $$ HR
    isplitl [HO]; · iexact HO
    isplitl [Htok]; · iexact Htok
    isplitl [Hg Hc]
    · iapply (Entails.of_eq (show (Rd m ρ).payload (((peer c r : Dev nD) : Thread nD τ), SemLoc.reg barS) 0 c
        = iprop((∃ f, gPts c (peer c r) f) ∗ ∃ f, cPts c (peer c r) fullShare f) from payload_cell m ρ (peer c r) bar c).symm)
      isplitl [Hg] <;> iassumption
    · iapply (reached_of m ρ K (peer c r) bar) $$ HR
  iintro HO
  iapply Hk
  iexists W; iexact HO

/-- The wait for the seven units. -/
theorem wp_bar {α : Type} {Q : α → sProp 𝕄} {k : PUnit → Prog (TpuEff nD τ sig (Elt F) Λ₀ .tc) α} :
    iprop(records m ρ K ∗ levAts L lv ∗ ow c (sigDue c []) ∗ BarW c)
      ⊢ iprop(((ow c (sendDue c ks) ∗ atPos ER (cell c bar) 1 ∅ 0 ∗ (bigSepL ks fun r => iprop(PlaceW (F := F) c r ∗ PlaceC c r)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (BitVec.toInt 7#32)) k) Q) := by
  unfold ow BarW
  iintro ⟨#HR, #Hlev, ⟨%W, HO⟩, HcB, HatB⟩ Hk
  iapply (Rounds.wp_wait_rest_token 𝒱₀ ER (Rd m ρ) (c : Thread nD τ) none (κ := K (c, bar))
      (wpE_semWait_eq 𝒱₀ (c : Thread nD τ) none Set.univ) (Set.mem_univ _) () (O := sendDue c ks) (W := W) (R := 0) (m := 0) (T := ∅)
      (by rw [show ((c : Thread nD τ), SemLoc.reg barS) = cell c bar from rfl, expect_bar]; decide)) $$ [HcB HO HatB]
  · isplitr; · iapply (inv_of m ρ K c bar) $$ HR
    isplitl [HcB]; · iexact HcB
    isplitl [HO]; · iexact HO
    isplitr; · iapply (mayWait_bar c); iexact Hlev
    iexact HatB
  iintro ⟨HO, HatB, -, Hpay⟩
  ihave Hp := (Entails.of_eq (show bigSep ((Rd (F := F) m ρ).duties ((c : Thread nD τ), SemLoc.reg barS) 0 \ ∅)
    (fun d => (Rd (F := F) m ρ).payload ((c : Thread nD τ), SemLoc.reg barS) 0 d) = _ from rest_bar m ρ c)) $$ Hpay
  iapply Hk
  isplitl [HO]; · iexists _; iexact HO
  isplitl [HatB]; · iexact HatB
  iexact Hp

/-! ## The transfers -/

/-- What a landed expert block's window holds, whatever it held. -/
theorem landed_w (d : Dev nD) (f : Vec F S32x256x512 .bf16) :
    ∀ i ∈ gSet c, ((gW c).view.write (Elt F) f (wM.view.read (Elt F) (wstg m ρ c)) Finset.univ : Vec F S32x256x512 .bf16) i = wall m ρ i := by
  intro i hi
  obtain ⟨j, rfl⟩ : ∃ j, (gW c).view.emb j = i := by
    obtain ⟨j, -, hj⟩ := Finset.mem_map.mp hi; exact ⟨j, hj⟩
  refine (View.write_emb_of_mem _ _ (Finset.mem_univ j)).trans ?_
  have hv : ∀ a, (((gW c).view.emb j) a).val = (k0_off3 c) a + (j a).val := fun a =>
    ValueKit.view_emb_slice_whole_unit_val cc0_scratch0 _ _ _ j a
  have h0 : (((gW c).view.emb j) 0).val = 4 * c.val + (j 0).val := by rw [hv, k0_off3_eq]; rfl
  have h1 : (((gW c).view.emb j) 1).val = (j 1).val := by rw [hv, k0_off3_eq]; exact Nat.zero_add _
  have h2 : (((gW c).view.emb j) 2).val = (j 2).val := by rw [hv, k0_off3_eq]; exact Nat.zero_add _
  have hj : (j 0).val < 4 := (j 0).isLt
  show wstg m ρ c j = wstg m ρ ⟨_, _⟩ (ix3 ⟨_, _⟩ _ _)
  have e1 : (⟨(((gW c).view.emb j) 0).val / 4, by rw [h0]; have := c.isLt; change c.val < 8 at this; show _ < 8; omega⟩ : Dev nD) = c := Fin.ext (by show _ / 4 = c.val; rw [h0]; omega)
  have e2 : ix3 (⟨(((gW c).view.emb j) 0).val % 4, Nat.mod_lt _ (by decide)⟩ : Fin 4) (((gW c).view.emb j) 1 : Fin 256) (((gW c).view.emb j) 2 : Fin 512) = j := by
    funext a
    match a with
    | ⟨0, _⟩ => exact Fin.ext (by show _ % 4 = (j 0).val; rw [h0]; omega)
    | ⟨1, _⟩ => exact Fin.ext h1
    | ⟨2, _⟩ => exact Fin.ext h2
  exact (congrArg₂ (fun (d : Dev nD) (x : S4x256x512.Idx) => wstg m ρ d x) e1 e2).symm

/-- What a landed counts row holds, whatever it held: the sender's row as the sender holds it. -/
theorem landed_c (f : Vec F S8x32 .i32) :
    ∀ i ∈ cSet c, ((cW c).view.write (Elt F) f ((cW c).view.read (Elt F) (call m ρ)) Finset.univ : Vec F S8x32 .i32) i = call m ρ i := by
  intro i hi
  obtain ⟨j, rfl⟩ : ∃ j, (cW c).view.emb j = i := by
    obtain ⟨j, -, hj⟩ := Finset.mem_map.mp hi; exact ⟨j, hj⟩
  refine (View.write_emb_of_mem _ _ (Finset.mem_univ j)).trans ?_
  rw [View.read_apply]
  simp only [cast_cast, cast_eq]

/-- The expert block's transfer to peer `r`. -/
theorem wp_sendW (r : Fin 7) (l : List (Fin 7)) (n : Dev nD) (hn : n = peer c r) (sS sR : DmaSem sig) (hsS : SemLoc.dma sS = csem (sw r)) (hsR : SemLoc.dma sR = csem (rw' c))
    {hsc : (gW c).view.ref.isScScratch = false}
    {hsrc : wM.view.WordExact} {hdst : (gW c).view.WordExact}
    {hsem : DmaTarget.Typed .vmem (.dma sR) (.remote (Dev.tc n : Thread nD τ) (gW c) (.dma sS) hsc)}
    {α : Type} {Q : α → sProp 𝕄} {k : PUnit → Prog (TpuEff nD τ sig (Elt F) Λ₀ .tc) α} :
    iprop(records m ρ K ∗ ow c (sendDue c l + tallyAt (cell (peer c r) (rc c)) () NC + tallyAt (cell (peer c r) (rw' c)) () NW)
        ∗ TokW c r ∗ PlaceW c r ∗ wPts m ρ c (shareTokN fullShare r.val))
      ⊢ iprop(((ow c (sendDue c l + tallyAt (cell (peer c r) (rc c)) () NC) ∗ SentW c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma wM (.remote (Dev.tc n : Thread nD τ) (gW c) (.dma sS) hsc) (.dma sR) hsrc hdst hsem) k) Q) := by
  subst hn
  obtain rfl : sS = _ := SemLoc.dma.inj hsS
  obtain rfl : sR = _ := SemLoc.dma.inj hsR
  unfold ow TokW PlaceW SentW
  iintro ⟨#HR, ⟨%W, HO⟩, ⟨HtS, HtR, Hat⟩, ⟨%f, Hd⟩, Hs⟩ Hk
  iapply (Rounds.wp_send_pointsTo 𝒱₀ ER (Rd m ρ) (c : Thread nD τ) none (κ₁ := K (c, sw r)) (κ₂ := K (peer c r, rw' c))
    (c' := (peer c r : Thread nD τ)) (src := wM) (dst := gW c) (q := shareTokN fullShare r.val) (fs := wstg m ρ c)
    (r₁ := 0) (r₂ := 0) (d₁ := 0) (d₂ := 0) (fd := f)
    (show (0 : Dev nD) ∈ (Rd (F := F) m ρ).duties (cell c (sw r)) 0 by rw [duties_cell]; exact Finset.mem_singleton_self _)
    (show (0 : Dev nD) ∈ (Rd (F := F) m ρ).duties (cell (peer c r) (rw' c)) 0 by
      rw [duties_cell]; show (0 : Dev nD) ∈ (if c = peer c r then ∅ else {0}); rw [if_neg (peer_ne c r).symm]; exact Finset.mem_singleton_self _)
    () () NW rfl (amount_cell m ρ c (sw r) 0) (amount_cell m ρ (peer c r) (rw' c) 0)
    (sendDue c l + tallyAt (cell (peer c r) (rc c)) () NC) rfl (W := W)
    (by
      refine BIBase.Entails.trans ?_ (Entails.of_eq (payload_cell m ρ c (sw r) 0).symm)
      show _ ⊢ wPts m ρ c (shareTokN fullShare r.val)
      unfold wPts; rw [View.set_whole])
    (by
      refine BIBase.Entails.trans ?_ (Entails.of_eq (payload_cell m ρ (peer c r) (rw' c) 0).symm)
      show _ ⊢ gPts (peer c r) c (wall m ρ)
      unfold gPts
      exact Entails.of_eq (pointsTo_congr (landed_w m ρ c (peer c r) f)))) $$ [HO HtS HtR Hd Hs]
  · isplitr; · iapply (inv_of m ρ K c (sw r)) $$ HR
    isplitr; · iapply (inv_of m ρ K (peer c r) (rw' c)) $$ HR
    isplitl [Hs]; · unfold wPts; rw [View.set_whole]; iexact Hs
    isplitl [Hd]; · unfold gPts; iexact Hd
    isplitl [HO]; · iexact HO
    isplitl [HtS]; · iexact HtS
    isplitr; · iapply (reached_of m ρ K c (sw r)) $$ HR
    isplitl [HtR]; · iexact HtR
    iapply (reached_of m ρ K (peer c r) (rw' c)) $$ HR
  iintro ⟨HcS, HO⟩
  iapply Hk
  isplitl [HO]; · iexists W; iexact HO
  isplitl [HcS] <;> iassumption

/-- The counts row's transfer to peer `r`. -/
theorem wp_sendC (r : Fin 7) (l : List (Fin 7)) (n : Dev nD) (hn : n = peer c r) (sS sR : DmaSem sig) (hsS : SemLoc.dma sS = csem (sc r)) (hsR : SemLoc.dma sR = csem (rc c))
    {hsc : (cW c).view.ref.isScScratch = false}
    {hsrc : (cW c).view.WordExact} {hdst : (cW c).view.WordExact}
    {hsem : DmaTarget.Typed .vmem (.dma sR) (.remote (Dev.tc n : Thread nD τ) (cW c) (.dma sS) hsc)}
    {α : Type} {Q : α → sProp 𝕄} {k : PUnit → Prog (TpuEff nD τ sig (Elt F) Λ₀ .tc) α} :
    iprop(records m ρ K ∗ ow c (sendDue c l + tallyAt (cell (peer c r) (rc c)) () NC)
        ∗ TokC c r ∗ PlaceC c r ∗ cPts c c (shareTokN fullShare r.val) (call m ρ))
      ⊢ iprop(((ow c (sendDue c l) ∗ SentC c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cW c) (.remote (Dev.tc n : Thread nD τ) (cW c) (.dma sS) hsc) (.dma sR) hsrc hdst hsem) k) Q) := by
  subst hn
  obtain rfl : sS = _ := SemLoc.dma.inj hsS
  obtain rfl : sR = _ := SemLoc.dma.inj hsR
  unfold ow TokC PlaceC SentC
  iintro ⟨#HR, ⟨%W, HO⟩, ⟨HtS, HtR, Hat⟩, ⟨%f, Hd⟩, Hs⟩ Hk
  iapply (Rounds.wp_send_pointsTo 𝒱₀ ER (Rd m ρ) (c : Thread nD τ) none (κ₁ := K (c, sc r)) (κ₂ := K (peer c r, rc c))
    (c' := (peer c r : Thread nD τ)) (src := cW c) (dst := cW c) (q := shareTokN fullShare r.val) (fs := call m ρ)
    (r₁ := 0) (r₂ := 0) (d₁ := 0) (d₂ := 0) (fd := f)
    (show (0 : Dev nD) ∈ (Rd (F := F) m ρ).duties (cell c (sc r)) 0 by rw [duties_cell]; exact Finset.mem_singleton_self _)
    (show (0 : Dev nD) ∈ (Rd (F := F) m ρ).duties (cell (peer c r) (rc c)) 0 by
      rw [duties_cell]; show (0 : Dev nD) ∈ (if c = peer c r then ∅ else {0}); rw [if_neg (peer_ne c r).symm]; exact Finset.mem_singleton_self _)
    () () NC rfl (amount_cell m ρ c (sc r) 0) (amount_cell m ρ (peer c r) (rc c) 0)
    (sendDue c l) rfl (W := W)
    (by
      refine BIBase.Entails.trans ?_ (Entails.of_eq (payload_cell m ρ c (sc r) 0).symm)
      exact BIBase.Entails.refl)
    (by
      refine BIBase.Entails.trans ?_ (Entails.of_eq (payload_cell m ρ (peer c r) (rc c) 0).symm)
      show _ ⊢ cPts (peer c r) c fullShare (call m ρ)
      unfold cPts
      exact Entails.of_eq (pointsTo_congr (landed_c m ρ c f)))) $$ [HO HtS HtR Hd Hs]
  · isplitr; · iapply (inv_of m ρ K c (sc r)) $$ HR
    isplitr; · iapply (inv_of m ρ K (peer c r) (rc c)) $$ HR
    isplitl [Hs]; · unfold cPts; iexact Hs
    isplitl [Hd]; · unfold cPts; iexact Hd
    isplitl [HO]; · iexact HO
    isplitl [HtS]; · iexact HtS
    isplitr; · iapply (reached_of m ρ K c (sc r)) $$ HR
    isplitl [HtR]; · iexact HtR
    iapply (reached_of m ρ K (peer c r) (rc c)) $$ HR
  iintro ⟨HcS, HO⟩
  iapply Hk
  isplitl [HO]; · iexists W; iexact HO
  isplitl [HcS] <;> iassumption

/-! ## The waits -/

/-- A wait for the whole amount of a cell of one duty, nothing owed: the payload and the cell's round 1. -/
theorem wp_wait_cell (k : CK) (hd : dutiesOf c k = {0}) (sm : DmaSem sig) (hsm : SemLoc.dma sm = csem k)
    {sp sp' : Space} {s s' : Shape} {e e' : EltTy} {src : Memref sig .tc sp' s' e'} {dst : Memref sig .tc sp s e}
    {hsrc : src.view.WordExact} {hdst : dst.view.WordExact} (hN : dst.view.dmaCredit = amtOf k)
    {α : Type} {Q : α → sProp 𝕄} {kk : PUnit → Prog (TpuEff nD τ sig (Elt F) Λ₀ .tc) α} :
    iprop(records m ρ K ∗ ow c 0 ∗ cred (tallyAt (cell c k) () (amtOf k)) ∗ atPos ER (cell c k) 0 ∅ 0)
      ⊢ iprop(((ow c 0 ∗ atPos ER (cell c k) 1 ∅ 0 ∗ payOf m ρ c 0 k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  rw [← hN]
  unfold ow
  iintro ⟨#HR, ⟨%W, HO⟩, HcB, HatB⟩ Hk
  have hcell : (((c : Dev nD) : Thread nD τ), SemLoc.dma sm) = cell c k := by rw [hsm]
  iapply (Rounds.wp_wait_rest_token 𝒱₀ ER (Rd m ρ) (c : Thread nD τ) none (κ := K (c, k))
      (wpE_waitDma2_eq 𝒱₀ (c : Thread nD τ) none Set.univ) (Set.mem_univ _) () (O := 0) (W := W) (R := 0) (m := 0) (T := ∅)
      (by rw [hcell, expect_one m ρ c k hd, Nat.zero_add, hN])) $$ [HcB HO HatB]
  · rw [hcell]
    isplitr; · iapply (inv_of m ρ K c k) $$ HR
    isplitl [HcB]; · iexact HcB
    isplitl [HO]; · iexact HO
    isplitr; · rw [MayWait_zero]; iempintro
    iexact HatB
  rw [hcell]
  iintro ⟨HO, HatB, -, Hpay⟩
  ihave Hp := (Entails.of_eq (rest_one m ρ c k hd)) $$ Hpay
  iapply Hk
  isplitl [HO]; · iexists _; iexact HO
  isplitl [HatB]; · iexact HatB
  iexact Hp

theorem duties_recv (r : Fin 7) : dutiesOf c (rw' (peer c r)) = {0} ∧ dutiesOf c (rc (peer c r)) = {0} :=
  ⟨if_neg (peer_ne c r), if_neg (peer_ne c r)⟩

/-- Every window of the weights' scratch credits the same amount. -/
theorem credit_g {off : Fin 3 → ℕ} {inb} :
    ((gM.slice (Rect.unit (s := S32x256x512) off S4x256x512.size inb) (fun _ => rfl)).view).dmaCredit = NW := by
  unfold NW View.dmaCredit
  exact congrArg (fun b => sig.dmaCredit Kind.tc (Kind.tc.table .vmem) b S4x256x512 .bf16)
    (show ((gM.slice (Rect.unit (s := S32x256x512) off S4x256x512.size inb) (fun _ => rfl)).view).buf = (gW 0).view.buf from rfl)

theorem wp_recvW {sp' : Space} {s' : Shape} {e' : EltTy} {src : Memref sig .tc sp' s' e'} {off : Fin 3 → ℕ} {inb}
    {hsrc : src.view.WordExact} {hdst : (gM.slice (Rect.unit (s := S32x256x512) off S4x256x512.size inb) (fun _ => rfl)).view.WordExact} {α : Type} {Q : α → sProp 𝕄} {kk : PUnit → Prog (TpuEff nD τ sig (Elt F) Λ₀ .tc) α}
    (r : Fin 7) (sm : DmaSem sig) (hsm : SemLoc.dma sm = csem (rw' (peer c r))) :
    iprop(records m ρ K ∗ ow c 0 ∗ RecvW c r)
      ⊢ iprop(((ow c 0 ∗ GotW m ρ c r) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src (gM.slice (Rect.unit (s := S32x256x512) off S4x256x512.size inb) (fun _ => rfl)) hsrc hdst) kk) Q) :=
  wp_wait_cell (src := src) (dst := (gM.slice (Rect.unit (s := S32x256x512) off S4x256x512.size inb) (fun _ => rfl))) (hsrc := hsrc) (hdst := hdst) m ρ K c (rw' (peer c r)) (duties_recv c r).1 sm hsm credit_g
theorem wp_recvC {sp' : Space} {s' : Shape} {e' : EltTy} {src : Memref sig .tc sp' s' e'} {off : Fin 2 → ℕ} {inb}
    {hsrc : src.view.WordExact} {hdst : (cM.slice (Rect.unit (s := S8x32) off S1x32.size inb) (fun _ => rfl)).view.WordExact} {α : Type} {Q : α → sProp 𝕄} {kk : PUnit → Prog (TpuEff nD τ sig (Elt F) Λ₀ .tc) α}
    (r : Fin 7) (sm : DmaSem sig) (hsm : SemLoc.dma sm = csem (rc (peer c r))) :
    iprop(records m ρ K ∗ ow c 0 ∗ RecvC c r)
      ⊢ iprop(((ow c 0 ∗ GotC m ρ c r) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src (cM.slice (Rect.unit (s := S8x32) off S1x32.size inb) (fun _ => rfl)) hsrc hdst) kk) Q) :=
  wp_wait_cell (src := src) (dst := (cM.slice (Rect.unit (s := S8x32) off S1x32.size inb) (fun _ => rfl))) (hsrc := hsrc) (hdst := hdst) m ρ K c (rc (peer c r)) (duties_recv c r).2 sm hsm rfl
theorem wp_doneW {sp' : Space} {s' : Shape} {e' : EltTy} {src : Memref sig .tc sp' s' e'}
    {hsrc : src.view.WordExact} {hdst : wM.view.WordExact} {α : Type} {Q : α → sProp 𝕄} {kk : PUnit → Prog (TpuEff nD τ sig (Elt F) Λ₀ .tc) α}
    (r : Fin 7) (sm : DmaSem sig) (hsm : SemLoc.dma sm = csem (sw r)) :
    iprop(records m ρ K ∗ ow c 0 ∗ SentW c r)
      ⊢ iprop(((ow c 0 ∗ DoneW m ρ c r) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src wM hsrc hdst) kk) Q) :=
  wp_wait_cell (src := src) (dst := wM) (hsrc := hsrc) (hdst := hdst) m ρ K c (sw r) rfl sm hsm rfl
theorem wp_doneC {sp' : Space} {s' : Shape} {e' : EltTy} {src : Memref sig .tc sp' s' e'} {off : Fin 2 → ℕ} {inb}
    {hsrc : src.view.WordExact} {hdst : (cM.slice (Rect.unit (s := S8x32) off S1x32.size inb) (fun _ => rfl)).view.WordExact} {α : Type} {Q : α → sProp 𝕄} {kk : PUnit → Prog (TpuEff nD τ sig (Elt F) Λ₀ .tc) α}
    (r : Fin 7) (sm : DmaSem sig) (hsm : SemLoc.dma sm = csem (sc r)) :
    iprop(records m ρ K ∗ ow c 0 ∗ SentC c r)
      ⊢ iprop(((ow c 0 ∗ DoneC m ρ c r) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src (cM.slice (Rect.unit (s := S8x32) off S1x32.size inb) (fun _ => rfl)) hsrc hdst) kk) Q) :=
  wp_wait_cell (src := src) (dst := (cM.slice (Rect.unit (s := S8x32) off S1x32.size inb) (fun _ => rfl))) (hsrc := hsrc) (hdst := hdst) m ρ K c (sc r) rfl sm hsm rfl

/-! ## The loads and the stores -/

/-- Expert `j` of a device's four, as a block of one. -/
def wrow (w : Vec F S4x256x512 .bf16) (j : Fin 4) : Vec F S1x256x512 .bf16 := fun i => w (ix3 j (i 1) (i 2))

/-- The load of expert `j` from window `peer c r`. -/
theorem wp_loadG (r : Fin 7) (j : Fin 4) {off : Fin 3 → ℕ} {inb} (hoff : off = ![4 * ((c.val + r.val + 1) % 8) + j.val, 0, 0])
    {hl : gM.view.LoadsAt (Rect.unit (s := S32x256x512) off S1x256x512.size inb).toLoadRect}
    {α : Type} {Q : α → sProp 𝕄} {k : Vec F S1x256x512 .bf16 → Prog (TpuEff nD τ sig (Elt F) Λ₀ .tc) α} :
    GotW m ρ c r
      ⊢ iprop((GotW m ρ c r -∗ wp frame (wpE (defs₀ (F := F)) 𝒱₀ (c : Thread nD τ) none) Set.univ (k (wrow (wstg m ρ (peer c r)) j)) Q)
          -∗ wp frame (wpE (defs₀ (F := F)) 𝒱₀ (c : Thread nD τ) none) Set.univ (.op (.load gM (Rect.unit (s := S32x256x512) off S1x256x512.size inb).toLoadRect hl) k) Q) := by
  have o0 : off 0 = 4 * ((c.val + r.val + 1) % 8) + j.val := by rw [hoff]; rfl
  have o1 : off 1 = 0 := by rw [hoff]; rfl
  have o2 : off 2 = 0 := by rw [hoff]; rfl
  have hemb : ∀ i a, ((Rect.unit (s := S32x256x512) off S1x256x512.size inb).emb i a).val = off a + (i a).val := fun i a =>
    ValueKit.rect_emb_unit_val _ _ _ i a
  have hread : (gM.view.readAt (Elt F) (Rect.unit (s := S32x256x512) off S1x256x512.size inb).toLoadRect (wall m ρ) : Vec F S1x256x512 .bf16)
      = wrow (wstg m ρ (peer c r)) j := by
    rw [View.readAt_rect]
    funext i
    rw [View.read_apply]
    set x := (gM.view.slice (Rect.unit (s := S32x256x512) off S1x256x512.size inb)).emb i with hx
    have hv : ∀ a, (x a).val = off a + (i a).val := fun a => hemb i a
    have hi : (i 0).val < 1 := (i 0).isLt
    have hj : j.val < 4 := j.isLt
    have h0 : (x 0).val = 4 * ((c.val + r.val + 1) % 8) + j.val := by rw [hv, o0]; omega
    have h1 : (x 1).val = (i 1).val := by rw [hv, o1]; exact Nat.zero_add _
    have h2 : (x 2).val = (i 2).val := by rw [hv, o2]; exact Nat.zero_add _
    show wstg m ρ ⟨_, _⟩ (ix3 ⟨_, _⟩ _ _) = wstg m ρ (peer c r) (ix3 j (i 1) (i 2))
    have e1 : (⟨(x 0).val / 4, by rw [h0]; show _ < 8; omega⟩ : Dev nD) = peer c r := Fin.ext (by show _ / 4 = (c.val + r.val + 1) % 8; rw [h0]; omega)
    have e2 : ix3 (⟨(x 0).val % 4, Nat.mod_lt _ (by decide)⟩ : Fin 4) (x 1 : Fin 256) (x 2 : Fin 512) = ix3 j (i 1) (i 2) := by
      funext a
      match a with
      | ⟨0, _⟩ => exact Fin.ext (by show _ % 4 = j.val; rw [h0]; omega)
      | ⟨1, _⟩ => exact Fin.ext h1
      | ⟨2, _⟩ => exact Fin.ext h2
    exact congrArg₂ (fun (d : Dev nD) (x : S4x256x512.Idx) => wstg m ρ d x) e1 e2
  have hS : gM.view.setOn (Rect.unit (s := S32x256x512) off S1x256x512.size inb).toLoadRect.set ⊆ gSet (peer c r) := by
    intro x hx
    obtain ⟨y, hy, rfl⟩ := Finset.mem_map.mp hx
    have hy' := Rect.mem_set_unit.mp (show y ∈ (Rect.unit (s := S32x256x512) off S1x256x512.size inb).set from hy)
    have h0 := hy' 0
    rw [o0] at h0
    have h0' : 4 * ((c.val + r.val + 1) % 8) + j.val ≤ (y 0).val ∧ (y 0).val < 4 * ((c.val + r.val + 1) % 8) + j.val + 1 := h0
    refine mem_gSet.mpr ?_
    show (y 0).val / 4 = (c.val + r.val + 1) % 8
    have hj : j.val < 4 := j.isLt
    omega
  unfold GotW gPts
  iintro ⟨Hat, H⟩ Hk
  iapply (wp_load 𝒱₀ (c : Thread nD τ) none Set.univ (m := gM) hS) $$ H
  iintro H
  rw [hread]
  iapply Hk
  isplitl [Hat] <;> iassumption

/-- The load of `c`'s own expert `j`. -/
theorem wp_loadW (j : Fin 4) {q : PosShare TreeShare} {off : Fin 3 → ℕ} {inb} (hoff : off = ![j.val, 0, 0])
    {hl : wM.view.LoadsAt (Rect.unit (s := S4x256x512) off S1x256x512.size inb).toLoadRect}
    {α : Type} {Q : α → sProp 𝕄} {k : Vec F S1x256x512 .bf16 → Prog (TpuEff nD τ sig (Elt F) Λ₀ .tc) α} :
    wPts m ρ c q
      ⊢ iprop((wPts m ρ c q -∗ wp frame (wpE (defs₀ (F := F)) 𝒱₀ (c : Thread nD τ) none) Set.univ (k (wrow (wstg m ρ c) j)) Q)
          -∗ wp frame (wpE (defs₀ (F := F)) 𝒱₀ (c : Thread nD τ) none) Set.univ (.op (.load wM (Rect.unit (s := S4x256x512) off S1x256x512.size inb).toLoadRect hl) k) Q) := by
  have o0 : off 0 = j.val := by rw [hoff]; rfl
  have o1 : off 1 = 0 := by rw [hoff]; rfl
  have o2 : off 2 = 0 := by rw [hoff]; rfl
  have hread : (wM.view.readAt (Elt F) (Rect.unit (s := S4x256x512) off S1x256x512.size inb).toLoadRect (wstg m ρ c) : Vec F S1x256x512 .bf16)
      = wrow (wstg m ρ c) j := by
    rw [View.readAt_rect]
    funext i
    rw [View.read_apply]
    set x := (wM.view.slice (Rect.unit (s := S4x256x512) off S1x256x512.size inb)).emb i with hx
    have hv : ∀ a, (x a).val = off a + (i a).val := fun a => ValueKit.rect_emb_unit_val _ _ _ i a
    have hi : (i 0).val < 1 := (i 0).isLt
    refine congrArg (wstg m ρ c) ?_
    funext a
    match a with
    | ⟨0, _⟩ => exact Fin.ext (by show (x 0).val = j.val; rw [hv, o0]; omega)
    | ⟨1, _⟩ => exact Fin.ext (by show (x 1).val = (i 1).val; rw [hv, o1]; exact Nat.zero_add _)
    | ⟨2, _⟩ => exact Fin.ext (by show (x 2).val = (i 2).val; rw [hv, o2]; exact Nat.zero_add _)
  unfold wPts
  iintro H Hk
  iapply (wp_load 𝒱₀ (c : Thread nD τ) none Set.univ (m := wM) (Finset.subset_univ _)) $$ H
  iintro H
  rw [hread]
  iapply Hk $$ H

end Steps

/-- The staged arrays on `c`. -/
def xPts (c : Dev nD) : sProp 𝕄 := (c : Thread nD τ).loc cc0_stg0_0 ↦{fullShare} xstg m ρ c
def iPts (c : Dev nD) : sProp 𝕄 := (c : Thread nD τ).loc cc0_stg1_0 ↦{fullShare} istg m ρ c
def oPts (c : Dev nD) (f : Vec F S512x512 .f32) : sProp 𝕄 := (c : Thread nD τ).loc cc0_stg3_0 ↦{fullShare} f

omit [FloatOps F] in
theorem zero2 : (![0, 0] : Fin 2 → Nat) = fun _ => 0 := funext fun a => by fin_cases a <;> rfl

section Steps2
variable (c : Dev nD)

/-- The load of the tokens. -/
theorem wp_loadX {inb} {hl : xM.view.LoadsAt (Rect.unit (s := S512x256) ![0, 0] S512x256.size inb).toLoadRect}
    {α : Type} {Q : α → sProp 𝕄} {k : Vec F S512x256 .bf16 → Prog (TpuEff nD τ sig (Elt F) Λ₀ .tc) α} :
    xPts m ρ c
      ⊢ iprop((xPts m ρ c -∗ wp frame (wpE (defs₀ (F := F)) 𝒱₀ (c : Thread nD τ) none) Set.univ (k (xstg m ρ c)) Q)
          -∗ wp frame (wpE (defs₀ (F := F)) 𝒱₀ (c : Thread nD τ) none) Set.univ (.op (.load xM (Rect.unit (s := S512x256) ![0, 0] S512x256.size inb).toLoadRect hl) k) Q) := by
  have hread : xM.view.readAt (Elt F) (Rect.unit (s := S512x256) ![0, 0] S512x256.size inb).toLoadRect (xstg m ρ c) = xstg m ρ c :=
    Memref.readAt_unit_zero (Elt F) cc0_stg0_0 zero2 _ _
  unfold xPts
  iintro H Hk
  iapply (wp_load 𝒱₀ (c : Thread nD τ) none Set.univ (m := xM) (Finset.subset_univ _)) $$ H
  iintro H
  rw [hread]
  iapply Hk $$ H

/-- The load of the route indices. -/
theorem wp_loadI {inb} {hl : iM.view.LoadsAt (Rect.unit (s := S512x1) ![0, 0] S512x1.size inb).toLoadRect}
    {α : Type} {Q : α → sProp 𝕄} {k : Vec F S512x1 .i32 → Prog (TpuEff nD τ sig (Elt F) Λ₀ .tc) α} :
    iPts m ρ c
      ⊢ iprop((iPts m ρ c -∗ wp frame (wpE (defs₀ (F := F)) 𝒱₀ (c : Thread nD τ) none) Set.univ (k (istg m ρ c)) Q)
          -∗ wp frame (wpE (defs₀ (F := F)) 𝒱₀ (c : Thread nD τ) none) Set.univ (.op (.load iM (Rect.unit (s := S512x1) ![0, 0] S512x1.size inb).toLoadRect hl) k) Q) := by
  have hread : iM.view.readAt (Elt F) (Rect.unit (s := S512x1) ![0, 0] S512x1.size inb).toLoadRect (istg m ρ c) = istg m ρ c :=
    Memref.readAt_unit_zero (Elt F) cc0_stg1_0 zero2 _ _
  unfold iPts
  iintro H Hk
  iapply (wp_load 𝒱₀ (c : Thread nD τ) none Set.univ (m := iM) (Finset.subset_univ _)) $$ H
  iintro H
  rw [hread]
  iapply Hk $$ H

/-- The load of the result's staging buffer, which nothing reads, and the store over it. -/
theorem wp_storeO {inb inb'} {hl : oM.view.LoadsAt (Rect.unit (s := S512x512) ![0, 0] S512x512.size inb).toLoadRect}
    {w : Vec F S512x512 .f32} {hx} {hm}
    {α : Type} {Q : α → sProp 𝕄} {k : PUnit → Prog (TpuEff nD τ sig (Elt F) Λ₀ .tc) α} (f : Vec F S512x512 .f32) :
    oPts c f
      ⊢ iprop((oPts c w -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (Rect.unit (s := S512x512) ![0, 0] S512x512.size inb).toLoadRect hl) fun _ =>
              .op (.store oM (Rect.unit (s := S512x512) ![0, 0] S512x512.size inb') w Finset.univ hx hm) k) Q) := by
  have hwrite : ∀ f, ((oM.access (Rect.unit (s := S512x512) ![0, 0] S512x512.size inb') : View sig .tc _ _ _).write (Elt F) f w Finset.univ) = w := fun f =>
    Memref.write_access_unit_zero_univ (Elt F) cc0_stg3_0 zero2 _ f w
  unfold oPts
  iintro H Hk
  iapply (wp_load 𝒱₀ (c : Thread nD τ) none Set.univ (m := oM) (Finset.subset_univ _)) $$ H
  iintro H
  iapply (wp_store 𝒱₀ (c : Thread nD τ) none Set.univ (m := oM) (r := Rect.unit (s := S512x512) ![0, 0] S512x512.size inb') (Mk := Finset.univ) (Finset.subset_univ _)) $$ H
  iintro H
  rw [hwrite]
  iapply Hk $$ H

/-- The load of `c`'s counts row, which nothing reads, and the store of its counts there. -/
theorem wp_storeC {off : Fin 2 → ℕ} {inb inb'} (hoff : off = ![c.val, 0]) {hl : cM.view.LoadsAt (Rect.unit (s := S8x32) off S1x32.size inb).toLoadRect}
    {hx} {hm} {α : Type} {Q : α → sProp 𝕄} {k : PUnit → Prog (TpuEff nD τ sig (Elt F) Λ₀ .tc) α} (f : Vec F S8x32 .i32) :
    cPts c c fullShare f
      ⊢ iprop((cPts c c fullShare (call m ρ) -∗ wp frame (wpE (defs₀ (F := F)) 𝒱₀ (c : Thread nD τ) none) Set.univ (k ⟨⟩) Q)
          -∗ wp frame (wpE (defs₀ (F := F)) 𝒱₀ (c : Thread nD τ) none) Set.univ
            (.op (.load cM (Rect.unit (s := S8x32) off S1x32.size inb).toLoadRect hl) fun _ =>
              .op (.store cM (Rect.unit (s := S8x32) off S1x32.size inb') (k0_pay3 (istg m ρ c)) Finset.univ hx hm) k) Q) := by
  have o0 : off 0 = c.val := by rw [hoff]; rfl
  have o1 : off 1 = 0 := by rw [hoff]; rfl
  have hset : ∀ y : S8x32.Idx, y ∈ (Rect.unit (s := S8x32) off S1x32.size inb).set → y ∈ cSet c := fun y hy => by
    have h0 := Rect.mem_set_unit.mp hy 0
    rw [o0] at h0
    have h0' : c.val ≤ (y 0).val ∧ (y 0).val < c.val + 1 := h0
    exact mem_cSet.mpr (by omega)
  have hS : cM.view.setOn (Rect.unit (s := S8x32) off S1x32.size inb).toLoadRect.set ⊆ cSet c := by
    intro x hx
    obtain ⟨y, hy, rfl⟩ := Finset.mem_map.mp hx
    exact hset y hy
  have hv : ∀ (j : S1x32.Idx) a, ((((cM.access (Rect.unit (s := S8x32) off S1x32.size inb')).emb j : S8x32.Idx) a)).val = off a + (j a).val := fun j a =>
    ValueKit.rect_emb_unit_val _ _ _ j a
  have hS' : (cM.access (Rect.unit (s := S8x32) off S1x32.size inb')).setOn Finset.univ ⊆ cSet c := by
    intro x hx
    obtain ⟨j, -, rfl⟩ := Finset.mem_map.mp hx
    have hj : (j 0).val < 1 := (j 0).isLt
    refine mem_cSet.mpr ?_
    rw [hv, o0]; omega
  have hw : ∀ i ∈ cSet c, ((cM.access (Rect.unit (s := S8x32) off S1x32.size inb') : View sig .tc _ _ _).write (Elt F) f (k0_pay3 (istg m ρ c)) Finset.univ : Vec F S8x32 .i32) i
      = call m ρ i := by
    intro i hi
    have hi0 : (i 0).val = c.val := mem_cSet.mp hi
    obtain ⟨j, hj⟩ : ∃ j : S1x32.Idx, ((cM.access (Rect.unit (s := S8x32) off S1x32.size inb')).emb j : S8x32.Idx) = i := by
      refine ⟨ix2 (0 : Fin 1) (i 1 : Fin 32), funext fun a => ?_⟩
      match a with
      | ⟨0, _⟩ => exact Fin.ext ((hv _ 0).trans ((congrArg (· + 0) o0).trans hi0.symm))
      | ⟨1, _⟩ => exact Fin.ext ((hv _ 1).trans ((congrArg (· + (i 1).val) o1).trans (Nat.zero_add _)))
    have hj1 : (i 1).val = (j 1).val := by rw [← hj, hv, o1]; exact Nat.zero_add _
    have hj0 : (j 0).val < 1 := (j 0).isLt
    rw [← hj]
    refine (View.write_emb_of_mem _ _ (Finset.mem_univ j)).trans ?_
    rw [hj]
    refine (cast_eq _ _).trans ?_
    have e1 : (⟨(i 0).val, (i 0).isLt⟩ : Dev nD) = c := Fin.ext hi0
    have e2 : ix2 (0 : Fin 1) (i 1 : Fin 32) = j := by
      funext a
      match a with
      | ⟨0, _⟩ => exact Fin.ext (by show 0 = (j 0).val; omega)
      | ⟨1, _⟩ => exact Fin.ext hj1
    unfold call
    rw [e1]
    exact congrArg (k0_pay3 (istg m ρ c)) e2.symm
  unfold cPts
  iintro H Hk
  iapply (wp_load 𝒱₀ (c : Thread nD τ) none Set.univ (m := cM) hS) $$ H
  iintro H
  iapply (wp_store 𝒱₀ (c : Thread nD τ) none Set.univ (m := cM) (r := Rect.unit (s := S8x32) off S1x32.size inb') (Mk := Finset.univ) hS') $$ H
  iintro H
  ihave H := (Entails.of_eq (pointsTo_congr hw)) $$ H
  iapply Hk $$ H

/-- Seven read shares of an array, and what is left. -/
theorem range_ks (Φ : ℕ → sProp 𝕄) : bigSep (Finset.range 7) Φ = bigSepL ks fun r => Φ r.val := by
  rw [bigSep_eq_bigSepL_of_eq (ks.map Fin.val) (by decide) (by decide) Φ, bigSepL_map]

theorem split_w : wPts m ρ c fullShare ⊣⊢ iprop(wPts m ρ c (shareDrop fullShare 7) ∗ bigSepL ks fun r => wPts m ρ c (shareTokN fullShare r.val)) := by
  unfold wPts; rw [← range_ks (fun n => ((c : Thread nD τ).loc cc0_stg2_0 ↦{shareTokN fullShare n} wstg m ρ c : sProp 𝕄))]; exact pointsTo_toks_range fullShare 7
theorem split_c (s : Dev nD) (f : Vec F S8x32 .i32) :
    cPts c s fullShare f ⊣⊢ iprop(cPts c s (shareDrop fullShare 7) f ∗ bigSepL ks fun r => cPts c s (shareTokN fullShare r.val) f) := by
  unfold cPts; rw [← range_ks (fun n => ((c : Thread nD τ).loc cc0_scratch1 ↦[cSet s]{shareTokN fullShare n} f : sProp 𝕄))]; exact pointsTo_toks_range fullShare 7

/-- All rows at one share are the whole counts buffer at that share. -/
theorem rows_whole (q : PosShare TreeShare) (f : Vec F S8x32 .i32) :
    ((c : Thread nD τ).loc cc0_scratch1 ↦{q} f : sProp 𝕄) = iprop(cPts c c q f ∗ bigSepL ks fun r => cPts c (peer c r) q f) := by
  rw [← bigSep_dev c (fun s => cPts c s q f)]
  unfold cPts
  rw [← pointsTo_biUnion (ℓ := (c : Thread nD τ).loc cc0_scratch1) Finset.univ cSet (fun s _ t _ h => cSet_disj h)]
  exact congrArg (fun S => ((c : Thread nD τ).loc cc0_scratch1 ↦[S]{q} f : sProp 𝕄)) cSet_cover.symm

/-- The load of the whole counts buffer, from the share of `c`'s own row that no transfer holds and the peers' rows. -/
theorem wp_loadC {inb} {hl : cM.view.LoadsAt (Rect.unit (s := S8x32) ![0, 0] S8x32.size inb).toLoadRect}
    {α : Type} {Q : α → sProp 𝕄} {k : Vec F S8x32 .i32 → Prog (TpuEff nD τ sig (Elt F) Λ₀ .tc) α} :
    iprop(cPts c c (shareDrop fullShare 7) (call m ρ) ∗ bigSepL ks fun r => GotC m ρ c r)
      ⊢ iprop(((cPts c c (shareDrop fullShare 7) (call m ρ) ∗ bigSepL ks fun r => GotC m ρ c r)
            -∗ wp frame (wpE (defs₀ (F := F)) 𝒱₀ (c : Thread nD τ) none) Set.univ (k (call m ρ)) Q)
          -∗ wp frame (wpE (defs₀ (F := F)) 𝒱₀ (c : Thread nD τ) none) Set.univ (.op (.load cM (Rect.unit (s := S8x32) ![0, 0] S8x32.size inb).toLoadRect hl) k) Q) := by
  have hread : cM.view.readAt (Elt F) (Rect.unit (s := S8x32) ![0, 0] S8x32.size inb).toLoadRect (call m ρ) = call m ρ :=
    Memref.readAt_unit_zero (Elt F) cc0_scratch1 zero2 _ _
  have hsp : ∀ s, cPts c s fullShare (call m ρ)
      = iprop(cPts c s (shareDrop fullShare 7) (call m ρ) ∗ bigSepL ks fun r => cPts c s (shareTokN fullShare r.val) (call m ρ)) := fun s =>
    (Entails.antisymm (split_c c s (call m ρ)).mp (split_c c s (call m ρ)).mpr)
  unfold GotC
  simp only [hsp, bigSepL_cons', bigSepL_nil]
  iintro ⟨H, ⟨A0, H0, T0⟩, ⟨A1, H1, T1⟩, ⟨A2, H2, T2⟩, ⟨A3, H3, T3⟩, ⟨A4, H4, T4⟩, ⟨A5, H5, T5⟩, ⟨A6, H6, T6⟩, -⟩ Hk
  ihave HW := (Entails.of_eq (rows_whole c (shareDrop fullShare 7) (call m ρ)).symm) $$ [H H0 H1 H2 H3 H4 H5 H6]
  · simp only [bigSepL_cons', bigSepL_nil]
    iframe
    iempintro
  iapply (wp_load 𝒱₀ (c : Thread nD τ) none Set.univ (m := cM) (Finset.subset_univ _)) $$ HW
  iintro HW
  rw [hread]
  ihave H := (Entails.of_eq (rows_whole c (shareDrop fullShare 7) (call m ρ))) $$ HW
  simp only [bigSepL_cons', bigSepL_nil]
  icases H with ⟨H, H0, H1, H2, H3, H4, H5, H6, -⟩
  iapply Hk
  iframe
  iempintro

end Steps2

end Cert.KernelIdeal.MoE

end
-- ==== Proof.KernelIdealParts.lean ====
/-
# `KernelIdealParts`: the values the body computes, and one theorem per printed part

`valN` is the value the printed program calls `%N`, as a function of what the launch starts with: a device's own staged
arrays, its peers' experts (`wstg m ρ (peer c r)`) and all devices' counts (`call`).  `outAt` is the stored result.
`part_N` executes the printed part `N` on device `c`: it takes the resources the part's operations need and hands the
continuation those they leave, with the part's results.
-/
module

public import proofs.«01_k».proof.Proof.KernelIdealSteps

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The values -/

def val2 (c : Dev nD) : BitVec 32 := (Scalar.remsi (Scalar.divsi (Dev.word c) 1#32) 8#32)
def val24 (c : Dev nD) : BitVec 32 := (Scalar.addi (Scalar.remsi (Scalar.divsi (Dev.word c) 1#32) 8#32) 6#32)
def val33 (c : Dev nD) : IVec S512x1 32 := k0_pay1 (istg m ρ c)
def val36 (c : Dev nD) : IVec S512x32 1 := k0_pay2 (istg m ρ c)
def val54 (c : Dev nD) : BitVec 32 := (Scalar.muli (Scalar.remsi (Scalar.addi (val2 c) 1#32) 8#32) 1#32)
def val81 (c : Dev nD) : BitVec 32 := (Scalar.remsi (Scalar.addi (val2 c) 3#32) 8#32)
def val117 (c : Dev nD) : BitVec 32 := (Scalar.remsi (Scalar.addi (val2 c) 5#32) 8#32)
def val153 (c : Dev nD) : BitVec 32 := (Scalar.remsi (Scalar.addi (val2 c) 7#32) 8#32)
def val171 (c : Dev nD) : FVec F S512x256 .bf16 := k0_pay4 (xstg m ρ c)
def val184 (c : Dev nD) : FVec F S512x512 .f32 := k0_pay5 (val2 c) (val33 m ρ c) (xstg m ρ c) (wrow (wstg m ρ c) 0)
def val190 (c : Dev nD) : FVec F S512x1 .f32 := k0_pay6 (F := F) (val2 c) (val33 m ρ c)
def val220 (c : Dev nD) : FVec F S512x512 .f32 := k0_pay7 (val2 c) (val33 m ρ c) (val171 m ρ c) (val184 m ρ c) (val190 m ρ c) (wrow (wstg m ρ c) 1) (wrow (wstg m ρ c) 2) (wrow (wstg m ρ c) 3)
def val232 (c : Dev nD) : FVec F S512x32 .f32 := k0_pay8 (F := F) (val36 m ρ c)
def val235 (c : Dev nD) : IVec S512x1 32 := k0_pay9 (val232 m ρ c)
def val237 (c : Dev nD) : BitVec 32 := (Scalar.remsi (Scalar.addi (val2 c) 1#32) 8#32)
def val258 (c : Dev nD) : FVec F S512x512 .f32 := k0_pay10 (val2 c) (val33 m ρ c) (val171 m ρ c) (val220 m ρ c) (wrow (wstg m ρ (peer c 0)) 0)
def val264 (c : Dev nD) : FVec F S512x1 .f32 := k0_pay11 (F := F) (val2 c) (val33 m ρ c)
def val269 (c : Dev nD) : FVec F S256x512 .bf16 := k0_pay12 (wrow (wstg m ρ (peer c 0)) 1)
def val303 (c : Dev nD) : FVec F S512x512 .f32 := k0_pay13 (val33 m ρ c) (val171 m ρ c) (val237 c) (val258 m ρ c) (val264 m ρ c) (val269 m ρ c) (wrow (wstg m ρ (peer c 0)) 2) (wrow (wstg m ρ (peer c 0)) 3)
def val305 (c : Dev nD) : BitVec 32 := (Scalar.remsi (Scalar.addi (val2 c) 2#32) 8#32)
def val341 (c : Dev nD) : FVec F S512x512 .f32 := k0_pay14 (val33 m ρ c) (val171 m ρ c) (val303 m ρ c) (val305 c) (wrow (wstg m ρ (peer c 1)) 0) (wrow (wstg m ρ (peer c 1)) 1)
def val347 (c : Dev nD) : FVec F S512x1 .f32 := k0_pay15 (F := F) (val33 m ρ c) (val305 c)
def val348 (c : Dev nD) : BitVec 32 := (Scalar.muli (val305 c) 4#32)
def val371 (c : Dev nD) : FVec F S512x512 .f32 := k0_pay16 (val33 m ρ c) (val171 m ρ c) (val305 c) (val341 m ρ c) (val347 m ρ c) (wrow (wstg m ρ (peer c 1)) 2) (wrow (wstg m ρ (peer c 1)) 3)
def val373 (c : Dev nD) : BitVec 32 := (Scalar.remsi (Scalar.addi (val2 c) 3#32) 8#32)
def val385 (c : Dev nD) : FVec F S512x1 .f32 := k0_pay17 (F := F) (val2 c) (val33 m ρ c)
def val424 (c : Dev nD) : FVec F S512x512 .f32 := k0_pay18 (val33 m ρ c) (val171 m ρ c) (val371 m ρ c) (val373 c) (val385 m ρ c) (wrow (wstg m ρ (peer c 2)) 0) (wrow (wstg m ρ (peer c 2)) 1) (wrow (wstg m ρ (peer c 2)) 2)
def val425 (c : Dev nD) : BitVec 32 := (Scalar.muli (val373 c) 4#32)
def val441 (c : Dev nD) : BitVec 32 := (Scalar.remsi (Scalar.addi (val2 c) 4#32) 8#32)
def val462 (c : Dev nD) : FVec F S512x512 .f32 := k0_pay19 (val2 c) (val33 m ρ c) (val171 m ρ c) (val424 m ρ c) (val425 c) 3#32 (wrow (wstg m ρ (peer c 2)) 3) (wrow (wstg m ρ (peer c 3)) 0)
def val463 (c : Dev nD) : BitVec 32 := (Scalar.muli (Scalar.remsi (Scalar.addi (val2 c) 4#32) 8#32) 4#32)
def val492 (c : Dev nD) : FVec F S512x512 .f32 := k0_pay20 (val33 m ρ c) (val171 m ρ c) (val441 c) (val462 m ρ c) (val463 c) (wrow (wstg m ρ (peer c 3)) 1) (wrow (wstg m ρ (peer c 3)) 2)
def val498 (c : Dev nD) : FVec F S512x1 .f32 := k0_pay21 (F := F) (val33 m ρ c) (val441 c)
def val503 (c : Dev nD) : FVec F S256x512 .bf16 := k0_pay22 (wrow (wstg m ρ (peer c 3)) 3)
def valZero  : FVec F S512x512 .f32 := (constant S512x512 .f32 0x00000000#32)
def val509 (c : Dev nD) : BitVec 32 := (Scalar.remsi (Scalar.addi (val2 c) 5#32) 8#32)
def val530 (c : Dev nD) : FVec F S512x512 .f32 := k0_pay23 (val2 c) (val33 m ρ c) (val171 m ρ c) (val492 m ρ c) (val498 m ρ c) (val503 m ρ c) (valZero (F := F)) (wrow (wstg m ρ (peer c 4)) 0)
def val536 (c : Dev nD) : FVec F S512x1 .f32 := k0_pay24 (F := F) (val2 c) (val33 m ρ c)
def val541 (c : Dev nD) : FVec F S256x512 .bf16 := k0_pay25 (wrow (wstg m ρ (peer c 4)) 1)
def val575 (c : Dev nD) : FVec F S512x512 .f32 := k0_pay26 (val33 m ρ c) (val171 m ρ c) (val509 c) (val530 m ρ c) (val536 m ρ c) (val541 m ρ c) (wrow (wstg m ρ (peer c 4)) 2) (wrow (wstg m ρ (peer c 4)) 3)
def val577 (c : Dev nD) : BitVec 32 := (Scalar.remsi (Scalar.addi (val2 c) 6#32) 8#32)
def val613 (c : Dev nD) : FVec F S512x512 .f32 := k0_pay27 (val33 m ρ c) (val171 m ρ c) (val575 m ρ c) (val577 c) (wrow (wstg m ρ (peer c 5)) 0) (wrow (wstg m ρ (peer c 5)) 1)
def val619 (c : Dev nD) : FVec F S512x1 .f32 := k0_pay28 (F := F) (val33 m ρ c) (val577 c)
def val620 (c : Dev nD) : BitVec 32 := (Scalar.muli (val577 c) 4#32)
def val643 (c : Dev nD) : FVec F S512x512 .f32 := k0_pay29 (val33 m ρ c) (val171 m ρ c) (val577 c) (val613 m ρ c) (val619 m ρ c) (wrow (wstg m ρ (peer c 5)) 2) (wrow (wstg m ρ (peer c 5)) 3)
def val645 (c : Dev nD) : BitVec 32 := (Scalar.remsi (Scalar.addi (val2 c) 7#32) 8#32)
def val657 (c : Dev nD) : FVec F S512x1 .f32 := k0_pay30 (F := F) (val2 c) (val33 m ρ c)
def val696 (c : Dev nD) : FVec F S512x512 .f32 := k0_pay31 (val33 m ρ c) (val171 m ρ c) (val643 m ρ c) (val645 c) (val657 m ρ c) (wrow (wstg m ρ (peer c 6)) 0) (wrow (wstg m ρ (peer c 6)) 1) (wrow (wstg m ρ (peer c 6)) 2)
def val697 (c : Dev nD) : BitVec 32 := (Scalar.muli (val645 c) 4#32)
def val711 (c : Dev nD) : FVec F S512x512 .f32 := k0_pay32 (val33 m ρ c) (val171 m ρ c) (val696 m ρ c) (val697 c) 3#32 (wrow (wstg m ρ (peer c 6)) 3)
def val761 (c : Dev nD) : BitVec 32 := (Scalar.remsi (Scalar.addi (val2 c) 7#32) 8#32)
def outAt (c : Dev nD) : FVec F S512x512 .f32 := k0_pay33 (val2 c) (val36 m ρ c) (val235 m ρ c) (val711 m ρ c) (call m ρ)

/-! ## Two rules with the peers spelled out -/

/-- What is owed between the two transfers to peer `r`. -/
abbrev sendMid (c : Dev nD) (r : Fin 7) (l : List (Fin 7)) : CellTallies nD τ sig Unit :=
  sendDue c l + tallyAt (cell (peer c r) (rc c)) () NC

theorem wp_barL (c : Dev nD) {α : Type} {Q : α → sProp 𝕄} {k : PUnit → Prog (TpuEff nD τ sig (Elt F) Λ₀ .tc) α} :
    iprop(records m ρ K ∗ levAts L lv ∗ ow c (sigDue c []) ∗ BarW c)
      ⊢ iprop(((ow c (sendDue c [0, 1, 2, 3, 4, 5, 6]) ∗ atPos ER (cell c bar) 1 ∅ 0 ∗ PlaceW (F := F) c 0 ∗ PlaceC (F := F) c 0 ∗ PlaceW (F := F) c 1 ∗ PlaceC (F := F) c 1
              ∗ PlaceW (F := F) c 2 ∗ PlaceC (F := F) c 2 ∗ PlaceW (F := F) c 3 ∗ PlaceC (F := F) c 3 ∗ PlaceW (F := F) c 4 ∗ PlaceC (F := F) c 4
              ∗ PlaceW (F := F) c 5 ∗ PlaceC (F := F) c 5 ∗ PlaceW (F := F) c 6 ∗ PlaceC (F := F) c 6)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (BitVec.toInt 7#32)) k) Q) := by
  iintro H Hk
  iapply (wp_bar m ρ K c) $$ H
  iintro ⟨HO, HB, HP⟩
  unfold ks
  simp only [bigSepL_cons', bigSepL_nil]
  icases HP with ⟨⟨W0, C0⟩, ⟨W1, C1⟩, ⟨W2, C2⟩, ⟨W3, C3⟩, ⟨W4, C4⟩, ⟨W5, C5⟩, ⟨W6, C6⟩, -⟩
  iapply Hk
  iframe HO HB W0 C0 W1 C1 W2 C2 W3 C3 W4 C4 W5 C5 W6 C6

theorem wp_loadCL (c : Dev nD) {inb} {hl : cM.view.LoadsAt (Rect.unit (s := S8x32) ![0, 0] S8x32.size inb).toLoadRect}
    {α : Type} {Q : α → sProp 𝕄} {k : Vec F S8x32 .i32 → Prog (TpuEff nD τ sig (Elt F) Λ₀ .tc) α} :
    iprop(cPts c c (shareDrop fullShare 7) (call m ρ) ∗ GotC m ρ c 0 ∗ GotC m ρ c 1 ∗ GotC m ρ c 2 ∗ GotC m ρ c 3 ∗ GotC m ρ c 4 ∗ GotC m ρ c 5 ∗ GotC m ρ c 6)
      ⊢ iprop(((cPts c c (shareDrop fullShare 7) (call m ρ) ∗ GotC m ρ c 0 ∗ GotC m ρ c 1 ∗ GotC m ρ c 2 ∗ GotC m ρ c 3 ∗ GotC m ρ c 4 ∗ GotC m ρ c 5 ∗ GotC m ρ c 6)
            -∗ wp frame (wpE (defs₀ (F := F)) 𝒱₀ (c : Thread nD τ) none) Set.univ (k (call m ρ)) Q)
          -∗ wp frame (wpE (defs₀ (F := F)) 𝒱₀ (c : Thread nD τ) none) Set.univ (.op (.load cM (Rect.unit (s := S8x32) ![0, 0] S8x32.size inb).toLoadRect hl) k) Q) := by
  have hks : (bigSepL ks fun r => GotC m ρ c r)
      = iprop(GotC m ρ c 0 ∗ GotC m ρ c 1 ∗ GotC m ρ c 2 ∗ GotC m ρ c 3 ∗ GotC m ρ c 4 ∗ GotC m ρ c 5 ∗ GotC m ρ c 6) := rfl
  rw [← hks]
  exact wp_loadC m ρ c

/-! ## The parts -/

/-- Part 1 on device `c`. -/
theorem part_1 (c : Dev nD) (Kt : (Σ' (d0 : Dev nD) (v2 : BitVec 32) (v3 : Sems sig S_) (v24 : BitVec 32), BitVec 32) → sProp 𝕄) :
    iprop(records m ρ K ∗ ow c (sigDue c [0, 1, 2, 3, 4, 5, 6]) ∗ Sig (F := F) c 0 ∗ Sig (F := F) c 1 ∗ Sig (F := F) c 2 ∗ Sig (F := F) c 3 ∗ Sig (F := F) c 4
        ∗ ((ow c (sigDue c [5, 6])) -∗ Kt ⟨c, (val2 c), (SemArray.scalar (sig.barrier 0 rfl)), (val24 c), 8#32⟩))
      ⊢ wp frame (wpE (defs₀ (F := F)) 𝒱₀ (c : Thread nD τ) none) Set.univ
          (k0_part1 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 ) Kt := by
  rw [k0_part1_eq_skeleton]
  unfold k0_part1_skel
  simp only [semSignalWord, semWaitWord, Prog.lift, Prog.bind_op, Prog.bind_ret, Prog.pure_eq_ret, wp_deviceId]
  iintro ⟨#HR, HO, S0, S1, S2, S3, S4, Hk⟩
  iapply (wp_sig m ρ K c 0 [1, 2, 3, 4, 5, 6] _ (Fin.ext (k0_dev1_eq c))) $$ [HO S0]
  · iframe HR HO S0
  iintro HO
  iapply (wp_sig m ρ K c 1 [2, 3, 4, 5, 6] _ (Fin.ext (k0_dev2_eq c))) $$ [HO S1]
  · iframe HR HO S1
  iintro HO
  iapply (wp_sig m ρ K c 2 [3, 4, 5, 6] _ (Fin.ext (k0_dev3_eq c))) $$ [HO S2]
  · iframe HR HO S2
  iintro HO
  iapply (wp_sig m ρ K c 3 [4, 5, 6] _ (Fin.ext (k0_dev4_eq c))) $$ [HO S3]
  · iframe HR HO S3
  iintro HO
  iapply (wp_sig m ρ K c 4 [5, 6] _ (Fin.ext (k0_dev5_eq c))) $$ [HO S4]
  · iframe HR HO S4
  iintro HO
  rw [wp_ret]
  imodintro
  unfold val2 val24
  iapply Hk
  iframe HO

/-- Part 2 on device `c`. -/
theorem part_2 (c : Dev nD) (f0 : Vec F S8x32 .i32) (Kt : (Σ' (v33 : IVec S512x1 32) (v36 : IVec S512x32 1) (v54 : BitVec 32), BitVec 32) → sProp 𝕄) :
    iprop(records m ρ K ∗ levAts L lv ∗ ow c (sigDue c [5, 6]) ∗ Sig (F := F) c 5 ∗ Sig (F := F) c 6 ∗ BarW (F := F) c ∗ iPts m ρ c ∗ cPts c c fullShare f0 ∗ TokW (F := F) c 0 ∗ wPts m ρ c (shareTokN fullShare (0 : Fin 7).val)
        ∗ ((ow c (sendMid c 0 [1, 2, 3, 4, 5, 6]) ∗ atPos ER (cell c bar) 1 ∅ 0 ∗ PlaceC (F := F) c 0 ∗ PlaceW (F := F) c 1 ∗ PlaceC (F := F) c 1 ∗ PlaceW (F := F) c 2 ∗ PlaceC (F := F) c 2 ∗ PlaceW (F := F) c 3 ∗ PlaceC (F := F) c 3 ∗ PlaceW (F := F) c 4 ∗ PlaceC (F := F) c 4 ∗ PlaceW (F := F) c 5 ∗ PlaceC (F := F) c 5 ∗ PlaceW (F := F) c 6 ∗ PlaceC (F := F) c 6 ∗ iPts m ρ c ∗ cPts c c fullShare (call m ρ) ∗ SentW (F := F) c 0) -∗ Kt ⟨(val33 m ρ c), (val36 m ρ c), (val54 c), 0#32⟩))
      ⊢ wp frame (wpE (defs₀ (F := F)) 𝒱₀ (c : Thread nD τ) none) Set.univ
          (k0_part2 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (SemArray.scalar (sig.barrier 0 rfl)) (val24 c) 8#32) Kt := by
  rw [k0_part2_eq_skeleton]
  unfold k0_part2_skel
  simp only [semSignalWord, semWaitWord, Prog.lift, Prog.bind_op, Prog.bind_ret, Prog.pure_eq_ret, wp_deviceId]
  iintro ⟨#HR, #Hlev, HO, S5, S6, HB, HI, HC, TW0, W0, Hk⟩
  iapply (wp_sig m ρ K c 5 [6] _ (Fin.ext (k0_dev6_eq c))) $$ [HO S5]
  · iframe HR HO S5
  iintro HO
  iapply (wp_sig m ρ K c 6 [] _ (Fin.ext (k0_dev7_eq c))) $$ [HO S6]
  · iframe HR HO S6
  iintro HO
  iapply (wp_barL m ρ K c) $$ [HO HB]
  · iframe HR Hlev HO HB
  iintro ⟨HO, HB, PW0, PC0, PW1, PC1, PW2, PC2, PW3, PC3, PW4, PC4, PW5, PC5, PW6, PC6⟩
  iapply (wp_loadI m ρ c) $$ HI
  iintro HI
  iapply (wp_storeC m ρ c (k0_off1_eq c) f0) $$ HC
  iintro HC
  iapply (wp_sendW m ρ K c 0 [1, 2, 3, 4, 5, 6] _ (Fin.ext (k0_dev8_eq c)) _ _ (congrArg SemLoc.dma (sem_send_w (i := 0))) (congrArg SemLoc.dma (sem_recv_w (k0_off2_eq c)))) $$ [HO TW0 PW0 W0]
  · iframe HR TW0 PW0 W0
    iexact HO
  iintro ⟨HO, SW0⟩
  rw [wp_ret]
  imodintro
  unfold val33 val36 val54
  iapply Hk
  iframe HO HB PC0 PW1 PC1 PW2 PC2 PW3 PC3 PW4 PC4 PW5 PC5 PW6 PC6 HI HC SW0

/-- Part 3 on device `c`. -/
theorem part_3 (c : Dev nD) (Kt : (BitVec 32) → sProp 𝕄) :
    iprop(records m ρ K ∗ ow c (sendMid c 0 [1, 2, 3, 4, 5, 6]) ∗ TokC (F := F) c 0 ∗ PlaceC (F := F) c 0 ∗ cPts c c (shareTokN fullShare (0 : Fin 7).val) (call m ρ) ∗ TokW (F := F) c 1 ∗ PlaceW (F := F) c 1 ∗ wPts m ρ c (shareTokN fullShare (1 : Fin 7).val) ∗ TokC (F := F) c 1 ∗ PlaceC (F := F) c 1 ∗ cPts c c (shareTokN fullShare (1 : Fin 7).val) (call m ρ)
        ∗ ((ow c (sendDue c [2, 3, 4, 5, 6]) ∗ SentC (F := F) c 0 ∗ SentW (F := F) c 1 ∗ SentC (F := F) c 1) -∗ Kt (val81 c)))
      ⊢ wp frame (wpE (defs₀ (F := F)) 𝒱₀ (c : Thread nD τ) none) Set.univ
          (k0_part3 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val54 c) 0#32) Kt := by
  rw [k0_part3_eq_skeleton]
  unfold k0_part3_skel
  simp only [semSignalWord, semWaitWord, Prog.lift, Prog.bind_op, Prog.bind_ret, Prog.pure_eq_ret, wp_deviceId]
  iintro ⟨#HR, HO, TC0, PC0, K0, TW1, PW1, W1, TC1, PC1, K1, Hk⟩
  iapply (wp_sendC m ρ K c 0 [1, 2, 3, 4, 5, 6] _ (Fin.ext (k0_dev9_eq c)) _ _ (congrArg SemLoc.dma (sem_send_c (i := 0))) (congrArg SemLoc.dma (sem_recv_c (k0_off2_eq c)))) $$ [HO TC0 PC0 K0]
  · iframe HR TC0 PC0 K0
    iexact HO
  iintro ⟨HO, SC0⟩
  iapply (wp_sendW m ρ K c 1 [2, 3, 4, 5, 6] _ (Fin.ext (k0_dev10_eq c)) _ _ (congrArg SemLoc.dma (sem_send_w (i := 1))) (congrArg SemLoc.dma (sem_recv_w (k0_off2_eq c)))) $$ [HO TW1 PW1 W1]
  · iframe HR TW1 PW1 W1
    iexact HO
  iintro ⟨HO, SW1⟩
  iapply (wp_sendC m ρ K c 1 [2, 3, 4, 5, 6] _ (Fin.ext (k0_dev11_eq c)) _ _ (congrArg SemLoc.dma (sem_send_c (i := 1))) (congrArg SemLoc.dma (sem_recv_c (k0_off2_eq c)))) $$ [HO TC1 PC1 K1]
  · iframe HR TC1 PC1 K1
    iexact HO
  iintro ⟨HO, SC1⟩
  rw [wp_ret]
  imodintro
  unfold val81
  iapply Hk
  iframe HO SC0 SW1 SC1

/-- Part 4 on device `c`. -/
theorem part_4 (c : Dev nD) (Kt : (BitVec 32) → sProp 𝕄) :
    iprop(records m ρ K ∗ ow c (sendDue c [2, 3, 4, 5, 6]) ∗ TokW (F := F) c 2 ∗ PlaceW (F := F) c 2 ∗ wPts m ρ c (shareTokN fullShare (2 : Fin 7).val) ∗ TokC (F := F) c 2 ∗ PlaceC (F := F) c 2 ∗ cPts c c (shareTokN fullShare (2 : Fin 7).val) (call m ρ) ∗ TokW (F := F) c 3 ∗ PlaceW (F := F) c 3 ∗ wPts m ρ c (shareTokN fullShare (3 : Fin 7).val) ∗ TokC (F := F) c 3 ∗ PlaceC (F := F) c 3 ∗ cPts c c (shareTokN fullShare (3 : Fin 7).val) (call m ρ)
        ∗ ((ow c (sendDue c [4, 5, 6]) ∗ SentW (F := F) c 2 ∗ SentC (F := F) c 2 ∗ SentW (F := F) c 3 ∗ SentC (F := F) c 3) -∗ Kt (val117 c)))
      ⊢ wp frame (wpE (defs₀ (F := F)) 𝒱₀ (c : Thread nD τ) none) Set.univ
          (k0_part4 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val81 c)) Kt := by
  rw [k0_part4_eq_skeleton]
  unfold k0_part4_skel
  simp only [semSignalWord, semWaitWord, Prog.lift, Prog.bind_op, Prog.bind_ret, Prog.pure_eq_ret, wp_deviceId]
  iintro ⟨#HR, HO, TW2, PW2, W2, TC2, PC2, K2, TW3, PW3, W3, TC3, PC3, K3, Hk⟩
  iapply (wp_sendW m ρ K c 2 [3, 4, 5, 6] _ (Fin.ext (k0_dev12_eq c)) _ _ (congrArg SemLoc.dma (sem_send_w (i := 2))) (congrArg SemLoc.dma (sem_recv_w (k0_off2_eq c)))) $$ [HO TW2 PW2 W2]
  · iframe HR TW2 PW2 W2
    iexact HO
  iintro ⟨HO, SW2⟩
  iapply (wp_sendC m ρ K c 2 [3, 4, 5, 6] _ (Fin.ext (k0_dev13_eq c)) _ _ (congrArg SemLoc.dma (sem_send_c (i := 2))) (congrArg SemLoc.dma (sem_recv_c (k0_off2_eq c)))) $$ [HO TC2 PC2 K2]
  · iframe HR TC2 PC2 K2
    iexact HO
  iintro ⟨HO, SC2⟩
  iapply (wp_sendW m ρ K c 3 [4, 5, 6] _ (Fin.ext (k0_dev14_eq c)) _ _ (congrArg SemLoc.dma (sem_send_w (i := 3))) (congrArg SemLoc.dma (sem_recv_w (k0_off2_eq c)))) $$ [HO TW3 PW3 W3]
  · iframe HR TW3 PW3 W3
    iexact HO
  iintro ⟨HO, SW3⟩
  iapply (wp_sendC m ρ K c 3 [4, 5, 6] _ (Fin.ext (k0_dev15_eq c)) _ _ (congrArg SemLoc.dma (sem_send_c (i := 3))) (congrArg SemLoc.dma (sem_recv_c (k0_off2_eq c)))) $$ [HO TC3 PC3 K3]
  · iframe HR TC3 PC3 K3
    iexact HO
  iintro ⟨HO, SC3⟩
  rw [wp_ret]
  imodintro
  unfold val117
  iapply Hk
  iframe HO SW2 SC2 SW3 SC3

/-- Part 5 on device `c`. -/
theorem part_5 (c : Dev nD) (Kt : (Σ' (v153 : BitVec 32), BitVec 32) → sProp 𝕄) :
    iprop(records m ρ K ∗ ow c (sendDue c [4, 5, 6]) ∗ TokW (F := F) c 4 ∗ PlaceW (F := F) c 4 ∗ wPts m ρ c (shareTokN fullShare (4 : Fin 7).val) ∗ TokC (F := F) c 4 ∗ PlaceC (F := F) c 4 ∗ cPts c c (shareTokN fullShare (4 : Fin 7).val) (call m ρ) ∗ TokW (F := F) c 5 ∗ PlaceW (F := F) c 5 ∗ wPts m ρ c (shareTokN fullShare (5 : Fin 7).val) ∗ TokC (F := F) c 5 ∗ PlaceC (F := F) c 5 ∗ cPts c c (shareTokN fullShare (5 : Fin 7).val) (call m ρ)
        ∗ ((ow c (sendDue c [6]) ∗ SentW (F := F) c 4 ∗ SentC (F := F) c 4 ∗ SentW (F := F) c 5 ∗ SentC (F := F) c 5) -∗ Kt ⟨(val153 c), 4#32⟩))
      ⊢ wp frame (wpE (defs₀ (F := F)) 𝒱₀ (c : Thread nD τ) none) Set.univ
          (k0_part5 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val117 c)) Kt := by
  rw [k0_part5_eq_skeleton]
  unfold k0_part5_skel
  simp only [semSignalWord, semWaitWord, Prog.lift, Prog.bind_op, Prog.bind_ret, Prog.pure_eq_ret, wp_deviceId]
  iintro ⟨#HR, HO, TW4, PW4, W4, TC4, PC4, K4, TW5, PW5, W5, TC5, PC5, K5, Hk⟩
  iapply (wp_sendW m ρ K c 4 [5, 6] _ (Fin.ext (k0_dev16_eq c)) _ _ (congrArg SemLoc.dma (sem_send_w (i := 4))) (congrArg SemLoc.dma (sem_recv_w (k0_off2_eq c)))) $$ [HO TW4 PW4 W4]
  · iframe HR TW4 PW4 W4
    iexact HO
  iintro ⟨HO, SW4⟩
  iapply (wp_sendC m ρ K c 4 [5, 6] _ (Fin.ext (k0_dev17_eq c)) _ _ (congrArg SemLoc.dma (sem_send_c (i := 4))) (congrArg SemLoc.dma (sem_recv_c (k0_off2_eq c)))) $$ [HO TC4 PC4 K4]
  · iframe HR TC4 PC4 K4
    iexact HO
  iintro ⟨HO, SC4⟩
  iapply (wp_sendW m ρ K c 5 [6] _ (Fin.ext (k0_dev18_eq c)) _ _ (congrArg SemLoc.dma (sem_send_w (i := 5))) (congrArg SemLoc.dma (sem_recv_w (k0_off2_eq c)))) $$ [HO TW5 PW5 W5]
  · iframe HR TW5 PW5 W5
    iexact HO
  iintro ⟨HO, SW5⟩
  iapply (wp_sendC m ρ K c 5 [6] _ (Fin.ext (k0_dev19_eq c)) _ _ (congrArg SemLoc.dma (sem_send_c (i := 5))) (congrArg SemLoc.dma (sem_recv_c (k0_off2_eq c)))) $$ [HO TC5 PC5 K5]
  · iframe HR TC5 PC5 K5
    iexact HO
  iintro ⟨HO, SC5⟩
  rw [wp_ret]
  imodintro
  unfold val153
  iapply Hk
  iframe HO SW4 SC4 SW5 SC5

/-- Part 6 on device `c`. -/
theorem part_6 (c : Dev nD) (Kt : (Σ' (v171 : FVec F S512x256 .bf16) (v184 : FVec F S512x512 .f32), FVec F S512x1 .f32) → sProp 𝕄) :
    iprop(records m ρ K ∗ ow c (sendDue c [6]) ∗ TokW (F := F) c 6 ∗ PlaceW (F := F) c 6 ∗ wPts m ρ c (shareTokN fullShare (6 : Fin 7).val) ∗ TokC (F := F) c 6 ∗ PlaceC (F := F) c 6 ∗ cPts c c (shareTokN fullShare (6 : Fin 7).val) (call m ρ) ∗ xPts m ρ c ∗ wPts m ρ c (shareDrop fullShare 7)
        ∗ ((ow c (sendDue c []) ∗ SentW (F := F) c 6 ∗ SentC (F := F) c 6 ∗ xPts m ρ c ∗ wPts m ρ c (shareDrop fullShare 7)) -∗ Kt ⟨(val171 m ρ c), (val184 m ρ c), (val190 m ρ c)⟩))
      ⊢ wp frame (wpE (defs₀ (F := F)) 𝒱₀ (c : Thread nD τ) none) Set.univ
          (k0_part6 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val153 c) 4#32) Kt := by
  rw [k0_part6_eq_skeleton]
  unfold k0_part6_skel
  simp only [semSignalWord, semWaitWord, Prog.lift, Prog.bind_op, Prog.bind_ret, Prog.pure_eq_ret, wp_deviceId]
  iintro ⟨#HR, HO, TW6, PW6, W6, TC6, PC6, K6, HX, HW, Hk⟩
  iapply (wp_sendW m ρ K c 6 [] _ (Fin.ext (k0_dev20_eq c)) _ _ (congrArg SemLoc.dma (sem_send_w (i := 6))) (congrArg SemLoc.dma (sem_recv_w (k0_off2_eq c)))) $$ [HO TW6 PW6 W6]
  · iframe HR TW6 PW6 W6
    iexact HO
  iintro ⟨HO, SW6⟩
  iapply (wp_sendC m ρ K c 6 [] _ (Fin.ext (k0_dev21_eq c)) _ _ (congrArg SemLoc.dma (sem_send_c (i := 6))) (congrArg SemLoc.dma (sem_recv_c (k0_off2_eq c)))) $$ [HO TC6 PC6 K6]
  · iframe HR TC6 PC6 K6
    iexact HO
  iintro ⟨HO, SC6⟩
  iapply (wp_loadX m ρ c) $$ HX
  iintro HX
  iapply (wp_loadW m ρ c 0 rfl) $$ HW
  iintro HW
  rw [wp_ret]
  imodintro
  unfold val171 val184 val190
  iapply Hk
  iframe HO SW6 SC6 HX HW

/-- Part 7 on device `c`. -/
theorem part_7 (c : Dev nD) (Kt : (Σ' (v220 : FVec F S512x512 .f32), FVec F S512x32 .f32) → sProp 𝕄) :
    iprop(records m ρ K ∗ wPts m ρ c (shareDrop fullShare 7)
        ∗ ((wPts m ρ c (shareDrop fullShare 7)) -∗ Kt ⟨(val220 m ρ c), (val232 m ρ c)⟩))
      ⊢ wp frame (wpE (defs₀ (F := F)) 𝒱₀ (c : Thread nD τ) none) Set.univ
          (k0_part7 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 (val2 c) (val33 m ρ c) (val36 m ρ c) (val171 m ρ c) (val184 m ρ c) (val190 m ρ c)) Kt := by
  rw [k0_part7_eq_skeleton]
  unfold k0_part7_skel
  simp only [semSignalWord, semWaitWord, Prog.lift, Prog.bind_op, Prog.bind_ret, Prog.pure_eq_ret, wp_deviceId]
  iintro ⟨#HR, HW, Hk⟩
  iapply (wp_loadW m ρ c 1 rfl) $$ HW
  iintro HW
  iapply (wp_loadW m ρ c 2 rfl) $$ HW
  iintro HW
  iapply (wp_loadW m ρ c 3 rfl) $$ HW
  iintro HW
  rw [wp_ret]
  imodintro
  unfold val220 val232
  iapply Hk
  iframe HW

/-- Part 8 on device `c`. -/
theorem part_8 (c : Dev nD) (Kt : (Σ' (v235 : IVec S512x1 32) (v237 : BitVec 32) (v258 : FVec F S512x512 .f32) (v264 : FVec F S512x1 .f32), FVec F S256x512 .bf16) → sProp 𝕄) :
    iprop(records m ρ K ∗ ow (F := F) c 0 ∗ RecvW (F := F) c 0
        ∗ ((ow (F := F) c 0 ∗ GotW m ρ c 0) -∗ Kt ⟨(val235 m ρ c), (val237 c), (val258 m ρ c), (val264 m ρ c), (val269 m ρ c)⟩))
      ⊢ wp frame (wpE (defs₀ (F := F)) 𝒱₀ (c : Thread nD τ) none) Set.univ
          (k0_part8 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val220 m ρ c) (val232 m ρ c)) Kt := by
  rw [k0_part8_eq_skeleton]
  unfold k0_part8_skel
  simp only [semSignalWord, semWaitWord, Prog.lift, Prog.bind_op, Prog.bind_ret, Prog.pure_eq_ret, wp_deviceId]
  iintro ⟨#HR, HO, RW0, Hk⟩
  iapply (wp_recvW m ρ K c 0 _ (congrArg SemLoc.dma (sem_recv_w (k0_off5_eq c 0)))) $$ [HO RW0]
  · iframe HR HO RW0
  iintro ⟨HO, G0⟩
  iapply (wp_loadG m ρ c 0 0 (k0_off7_eq c 0 0)) $$ G0
  iintro G0
  iapply (wp_loadG m ρ c 0 1 (k0_off7_eq c 0 1)) $$ G0
  iintro G0
  rw [wp_ret]
  imodintro
  unfold val235 val237 val258 val264 val269
  iapply Hk
  iframe HO G0

/-- Part 9 on device `c`. -/
theorem part_9 (c : Dev nD) (Kt : (Σ' (v303 : FVec F S512x512 .f32), BitVec 32) → sProp 𝕄) :
    iprop(records m ρ K ∗ GotW m ρ c 0
        ∗ ((GotW m ρ c 0) -∗ Kt ⟨(val303 m ρ c), (val305 c)⟩))
      ⊢ wp frame (wpE (defs₀ (F := F)) 𝒱₀ (c : Thread nD τ) none) Set.univ
          (k0_part9 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val237 c) (val258 m ρ c) (val264 m ρ c) (val269 m ρ c)) Kt := by
  rw [k0_part9_eq_skeleton]
  unfold k0_part9_skel
  simp only [semSignalWord, semWaitWord, Prog.lift, Prog.bind_op, Prog.bind_ret, Prog.pure_eq_ret, wp_deviceId]
  iintro ⟨#HR, G0, Hk⟩
  iapply (wp_loadG m ρ c 0 2 (k0_off7_eq c 0 2)) $$ G0
  iintro G0
  iapply (wp_loadG m ρ c 0 3 (k0_off7_eq c 0 3)) $$ G0
  iintro G0
  rw [wp_ret]
  imodintro
  unfold val303 val305
  iapply Hk
  iframe G0

/-- Part 10 on device `c`. -/
theorem part_10 (c : Dev nD) (Kt : (Σ' (v341 : FVec F S512x512 .f32) (v347 : FVec F S512x1 .f32), BitVec 32) → sProp 𝕄) :
    iprop(records m ρ K ∗ ow (F := F) c 0 ∗ RecvW (F := F) c 1
        ∗ ((ow (F := F) c 0 ∗ GotW m ρ c 1) -∗ Kt ⟨(val341 m ρ c), (val347 m ρ c), (val348 c)⟩))
      ⊢ wp frame (wpE (defs₀ (F := F)) 𝒱₀ (c : Thread nD τ) none) Set.univ
          (k0_part10 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val33 m ρ c) (val171 m ρ c) (val303 m ρ c) (val305 c)) Kt := by
  rw [k0_part10_eq_skeleton]
  unfold k0_part10_skel
  simp only [semSignalWord, semWaitWord, Prog.lift, Prog.bind_op, Prog.bind_ret, Prog.pure_eq_ret, wp_deviceId]
  iintro ⟨#HR, HO, RW1, Hk⟩
  iapply (wp_recvW m ρ K c 1 _ (congrArg SemLoc.dma (sem_recv_w (k0_off5_eq c 1)))) $$ [HO RW1]
  · iframe HR HO RW1
  iintro ⟨HO, G1⟩
  iapply (wp_loadG m ρ c 1 0 (k0_off7_eq c 1 0)) $$ G1
  iintro G1
  iapply (wp_loadG m ρ c 1 1 (k0_off7_eq c 1 1)) $$ G1
  iintro G1
  rw [wp_ret]
  imodintro
  unfold val341 val347 val348
  iapply Hk
  iframe HO G1

/-- Part 11 on device `c`. -/
theorem part_11 (c : Dev nD) (Kt : (Σ' (v371 : FVec F S512x512 .f32) (v373 : BitVec 32) (v385 : FVec F S512x1 .f32), BitVec 32) → sProp 𝕄) :
    iprop(records m ρ K ∗ GotW m ρ c 1 ∗ ow (F := F) c 0 ∗ RecvW (F := F) c 2
        ∗ ((GotW m ρ c 1 ∗ ow (F := F) c 0 ∗ GotW m ρ c 2) -∗ Kt ⟨(val371 m ρ c), (val373 c), (val385 m ρ c), 4#32⟩))
      ⊢ wp frame (wpE (defs₀ (F := F)) 𝒱₀ (c : Thread nD τ) none) Set.univ
          (k0_part11 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val305 c) (val341 m ρ c) (val347 m ρ c) (val348 c)) Kt := by
  rw [k0_part11_eq_skeleton]
  unfold k0_part11_skel
  simp only [semSignalWord, semWaitWord, Prog.lift, Prog.bind_op, Prog.bind_ret, Prog.pure_eq_ret, wp_deviceId]
  iintro ⟨#HR, G1, HO, RW2, Hk⟩
  iapply (wp_loadG m ρ c 1 2 (k0_off7_eq c 1 2)) $$ G1
  iintro G1
  iapply (wp_loadG m ρ c 1 3 (k0_off7_eq c 1 3)) $$ G1
  iintro G1
  iapply (wp_recvW m ρ K c 2 _ (congrArg SemLoc.dma (sem_recv_w (k0_off5_eq c 2)))) $$ [HO RW2]
  · iframe HR HO RW2
  iintro ⟨HO, G2⟩
  rw [wp_ret]
  imodintro
  unfold val371 val373 val385
  iapply Hk
  iframe G1 HO G2

/-- Part 12 on device `c`. -/
theorem part_12 (c : Dev nD) (Kt : (Σ' (v424 : FVec F S512x512 .f32) (v425 : BitVec 32), BitVec 32) → sProp 𝕄) :
    iprop(records m ρ K ∗ GotW m ρ c 2
        ∗ ((GotW m ρ c 2) -∗ Kt ⟨(val424 m ρ c), (val425 c), 3#32⟩))
      ⊢ wp frame (wpE (defs₀ (F := F)) 𝒱₀ (c : Thread nD τ) none) Set.univ
          (k0_part12 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val33 m ρ c) (val171 m ρ c) (val371 m ρ c) (val373 c) (val385 m ρ c) 4#32) Kt := by
  rw [k0_part12_eq_skeleton]
  unfold k0_part12_skel
  simp only [semSignalWord, semWaitWord, Prog.lift, Prog.bind_op, Prog.bind_ret, Prog.pure_eq_ret, wp_deviceId]
  iintro ⟨#HR, G2, Hk⟩
  iapply (wp_loadG m ρ c 2 0 (k0_off7_eq c 2 0)) $$ G2
  iintro G2
  iapply (wp_loadG m ρ c 2 1 (k0_off7_eq c 2 1)) $$ G2
  iintro G2
  iapply (wp_loadG m ρ c 2 2 (k0_off7_eq c 2 2)) $$ G2
  iintro G2
  rw [wp_ret]
  imodintro
  unfold val424 val425
  iapply Hk
  iframe G2

/-- Part 13 on device `c`. -/
theorem part_13 (c : Dev nD) (Kt : (Σ' (v441 : BitVec 32) (v462 : FVec F S512x512 .f32), BitVec 32) → sProp 𝕄) :
    iprop(records m ρ K ∗ GotW m ρ c 2 ∗ ow (F := F) c 0 ∗ RecvW (F := F) c 3
        ∗ ((GotW m ρ c 2 ∗ ow (F := F) c 0 ∗ GotW m ρ c 3) -∗ Kt ⟨(val441 c), (val462 m ρ c), (val463 c)⟩))
      ⊢ wp frame (wpE (defs₀ (F := F)) 𝒱₀ (c : Thread nD τ) none) Set.univ
          (k0_part13 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val373 c) (val424 m ρ c) (val425 c) 3#32) Kt := by
  rw [k0_part13_eq_skeleton]
  unfold k0_part13_skel
  simp only [semSignalWord, semWaitWord, Prog.lift, Prog.bind_op, Prog.bind_ret, Prog.pure_eq_ret, wp_deviceId]
  iintro ⟨#HR, G2, HO, RW3, Hk⟩
  iapply (wp_loadG m ρ c 2 3 (k0_off7_eq c 2 3)) $$ G2
  iintro G2
  iapply (wp_recvW m ρ K c 3 _ (congrArg SemLoc.dma (sem_recv_w (k0_off5_eq c 3)))) $$ [HO RW3]
  · iframe HR HO RW3
  iintro ⟨HO, G3⟩
  iapply (wp_loadG m ρ c 3 0 (k0_off7_eq c 3 0)) $$ G3
  iintro G3
  rw [wp_ret]
  imodintro
  unfold val441 val462 val463
  iapply Hk
  iframe G2 HO G3

/-- Part 14 on device `c`. -/
theorem part_14 (c : Dev nD) (Kt : (Σ' (v492 : FVec F S512x512 .f32) (v498 : FVec F S512x1 .f32) (v503 : FVec F S256x512 .bf16), FVec F S512x512 .f32) → sProp 𝕄) :
    iprop(records m ρ K ∗ GotW m ρ c 3
        ∗ ((GotW m ρ c 3) -∗ Kt ⟨(val492 m ρ c), (val498 m ρ c), (val503 m ρ c), (valZero (F := F))⟩))
      ⊢ wp frame (wpE (defs₀ (F := F)) 𝒱₀ (c : Thread nD τ) none) Set.univ
          (k0_part14 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val33 m ρ c) (val171 m ρ c) (val441 c) (val462 m ρ c) (val463 c)) Kt := by
  rw [k0_part14_eq_skeleton]
  unfold k0_part14_skel
  simp only [semSignalWord, semWaitWord, Prog.lift, Prog.bind_op, Prog.bind_ret, Prog.pure_eq_ret, wp_deviceId]
  iintro ⟨#HR, G3, Hk⟩
  iapply (wp_loadG m ρ c 3 1 (k0_off7_eq c 3 1)) $$ G3
  iintro G3
  iapply (wp_loadG m ρ c 3 2 (k0_off7_eq c 3 2)) $$ G3
  iintro G3
  iapply (wp_loadG m ρ c 3 3 (k0_off7_eq c 3 3)) $$ G3
  iintro G3
  rw [wp_ret]
  imodintro
  unfold val492 val498 val503 valZero
  iapply Hk
  iframe G3

/-- Part 15 on device `c`. -/
theorem part_15 (c : Dev nD) (Kt : (Σ' (v509 : BitVec 32) (v530 : FVec F S512x512 .f32) (v536 : FVec F S512x1 .f32), FVec F S256x512 .bf16) → sProp 𝕄) :
    iprop(records m ρ K ∗ ow (F := F) c 0 ∗ RecvW (F := F) c 4
        ∗ ((ow (F := F) c 0 ∗ GotW m ρ c 4) -∗ Kt ⟨(val509 c), (val530 m ρ c), (val536 m ρ c), (val541 m ρ c)⟩))
      ⊢ wp frame (wpE (defs₀ (F := F)) 𝒱₀ (c : Thread nD τ) none) Set.univ
          (k0_part15 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val492 m ρ c) (val498 m ρ c) (val503 m ρ c) (valZero (F := F))) Kt := by
  rw [k0_part15_eq_skeleton]
  unfold k0_part15_skel
  simp only [semSignalWord, semWaitWord, Prog.lift, Prog.bind_op, Prog.bind_ret, Prog.pure_eq_ret, wp_deviceId]
  iintro ⟨#HR, HO, RW4, Hk⟩
  iapply (wp_recvW m ρ K c 4 _ (congrArg SemLoc.dma (sem_recv_w (k0_off5_eq c 4)))) $$ [HO RW4]
  · iframe HR HO RW4
  iintro ⟨HO, G4⟩
  iapply (wp_loadG m ρ c 4 0 (k0_off7_eq c 4 0)) $$ G4
  iintro G4
  iapply (wp_loadG m ρ c 4 1 (k0_off7_eq c 4 1)) $$ G4
  iintro G4
  rw [wp_ret]
  imodintro
  unfold val509 val530 val536 val541
  iapply Hk
  iframe HO G4

/-- Part 16 on device `c`. -/
theorem part_16 (c : Dev nD) (Kt : (Σ' (v575 : FVec F S512x512 .f32), BitVec 32) → sProp 𝕄) :
    iprop(records m ρ K ∗ GotW m ρ c 4
        ∗ ((GotW m ρ c 4) -∗ Kt ⟨(val575 m ρ c), (val577 c)⟩))
      ⊢ wp frame (wpE (defs₀ (F := F)) 𝒱₀ (c : Thread nD τ) none) Set.univ
          (k0_part16 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val509 c) (val530 m ρ c) (val536 m ρ c) (val541 m ρ c)) Kt := by
  rw [k0_part16_eq_skeleton]
  unfold k0_part16_skel
  simp only [semSignalWord, semWaitWord, Prog.lift, Prog.bind_op, Prog.bind_ret, Prog.pure_eq_ret, wp_deviceId]
  iintro ⟨#HR, G4, Hk⟩
  iapply (wp_loadG m ρ c 4 2 (k0_off7_eq c 4 2)) $$ G4
  iintro G4
  iapply (wp_loadG m ρ c 4 3 (k0_off7_eq c 4 3)) $$ G4
  iintro G4
  rw [wp_ret]
  imodintro
  unfold val575 val577
  iapply Hk
  iframe G4

/-- Part 17 on device `c`. -/
theorem part_17 (c : Dev nD) (Kt : (Σ' (v613 : FVec F S512x512 .f32) (v619 : FVec F S512x1 .f32), BitVec 32) → sProp 𝕄) :
    iprop(records m ρ K ∗ ow (F := F) c 0 ∗ RecvW (F := F) c 5
        ∗ ((ow (F := F) c 0 ∗ GotW m ρ c 5) -∗ Kt ⟨(val613 m ρ c), (val619 m ρ c), (val620 c)⟩))
      ⊢ wp frame (wpE (defs₀ (F := F)) 𝒱₀ (c : Thread nD τ) none) Set.univ
          (k0_part17 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val33 m ρ c) (val171 m ρ c) (val575 m ρ c) (val577 c)) Kt := by
  rw [k0_part17_eq_skeleton]
  unfold k0_part17_skel
  simp only [semSignalWord, semWaitWord, Prog.lift, Prog.bind_op, Prog.bind_ret, Prog.pure_eq_ret, wp_deviceId]
  iintro ⟨#HR, HO, RW5, Hk⟩
  iapply (wp_recvW m ρ K c 5 _ (congrArg SemLoc.dma (sem_recv_w (k0_off5_eq c 5)))) $$ [HO RW5]
  · iframe HR HO RW5
  iintro ⟨HO, G5⟩
  iapply (wp_loadG m ρ c 5 0 (k0_off7_eq c 5 0)) $$ G5
  iintro G5
  iapply (wp_loadG m ρ c 5 1 (k0_off7_eq c 5 1)) $$ G5
  iintro G5
  rw [wp_ret]
  imodintro
  unfold val613 val619 val620
  iapply Hk
  iframe HO G5

/-- Part 18 on device `c`. -/
theorem part_18 (c : Dev nD) (Kt : (Σ' (v643 : FVec F S512x512 .f32) (v645 : BitVec 32) (v657 : FVec F S512x1 .f32), BitVec 32) → sProp 𝕄) :
    iprop(records m ρ K ∗ GotW m ρ c 5 ∗ ow (F := F) c 0 ∗ RecvW (F := F) c 6
        ∗ ((GotW m ρ c 5 ∗ ow (F := F) c 0 ∗ GotW m ρ c 6) -∗ Kt ⟨(val643 m ρ c), (val645 c), (val657 m ρ c), 4#32⟩))
      ⊢ wp frame (wpE (defs₀ (F := F)) 𝒱₀ (c : Thread nD τ) none) Set.univ
          (k0_part18 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val577 c) (val613 m ρ c) (val619 m ρ c) (val620 c)) Kt := by
  rw [k0_part18_eq_skeleton]
  unfold k0_part18_skel
  simp only [semSignalWord, semWaitWord, Prog.lift, Prog.bind_op, Prog.bind_ret, Prog.pure_eq_ret, wp_deviceId]
  iintro ⟨#HR, G5, HO, RW6, Hk⟩
  iapply (wp_loadG m ρ c 5 2 (k0_off7_eq c 5 2)) $$ G5
  iintro G5
  iapply (wp_loadG m ρ c 5 3 (k0_off7_eq c 5 3)) $$ G5
  iintro G5
  iapply (wp_recvW m ρ K c 6 _ (congrArg SemLoc.dma (sem_recv_w (k0_off5_eq c 6)))) $$ [HO RW6]
  · iframe HR HO RW6
  iintro ⟨HO, G6⟩
  rw [wp_ret]
  imodintro
  unfold val643 val645 val657
  iapply Hk
  iframe G5 HO G6

/-- Part 19 on device `c`. -/
theorem part_19 (c : Dev nD) (Kt : (Σ' (v696 : FVec F S512x512 .f32) (v697 : BitVec 32), BitVec 32) → sProp 𝕄) :
    iprop(records m ρ K ∗ GotW m ρ c 6
        ∗ ((GotW m ρ c 6) -∗ Kt ⟨(val696 m ρ c), (val697 c), 3#32⟩))
      ⊢ wp frame (wpE (defs₀ (F := F)) 𝒱₀ (c : Thread nD τ) none) Set.univ
          (k0_part19 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val33 m ρ c) (val171 m ρ c) (val643 m ρ c) (val645 c) (val657 m ρ c) 4#32) Kt := by
  rw [k0_part19_eq_skeleton]
  unfold k0_part19_skel
  simp only [semSignalWord, semWaitWord, Prog.lift, Prog.bind_op, Prog.bind_ret, Prog.pure_eq_ret, wp_deviceId]
  iintro ⟨#HR, G6, Hk⟩
  iapply (wp_loadG m ρ c 6 0 (k0_off7_eq c 6 0)) $$ G6
  iintro G6
  iapply (wp_loadG m ρ c 6 1 (k0_off7_eq c 6 1)) $$ G6
  iintro G6
  iapply (wp_loadG m ρ c 6 2 (k0_off7_eq c 6 2)) $$ G6
  iintro G6
  rw [wp_ret]
  imodintro
  unfold val696 val697
  iapply Hk
  iframe G6

/-- Part 20 on device `c`. -/
theorem part_20 (c : Dev nD) (Kt : (FVec F S512x512 .f32) → sProp 𝕄) :
    iprop(records m ρ K ∗ GotW m ρ c 6 ∗ ow (F := F) c 0 ∗ RecvC (F := F) c 0 ∗ RecvC (F := F) c 1
        ∗ ((GotW m ρ c 6 ∗ ow (F := F) c 0 ∗ GotC m ρ c 0 ∗ GotC m ρ c 1) -∗ Kt (val711 m ρ c)))
      ⊢ wp frame (wpE (defs₀ (F := F)) 𝒱₀ (c : Thread nD τ) none) Set.univ
          (k0_part20 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val33 m ρ c) (val171 m ρ c) (val645 c) (val696 m ρ c) (val697 c) 3#32) Kt := by
  rw [k0_part20_eq_skeleton]
  unfold k0_part20_skel
  simp only [semSignalWord, semWaitWord, Prog.lift, Prog.bind_op, Prog.bind_ret, Prog.pure_eq_ret, wp_deviceId]
  iintro ⟨#HR, G6, HO, RC0, RC1, Hk⟩
  iapply (wp_loadG m ρ c 6 3 (k0_off7_eq c 6 3)) $$ G6
  iintro G6
  iapply (wp_recvC m ρ K c 0 _ (congrArg SemLoc.dma (sem_recv_c (k0_off5_eq c 0)))) $$ [HO RC0]
  · iframe HR HO RC0
  iintro ⟨HO, C0⟩
  iapply (wp_recvC m ρ K c 1 _ (congrArg SemLoc.dma (sem_recv_c (k0_off5_eq c 1)))) $$ [HO RC1]
  · iframe HR HO RC1
  iintro ⟨HO, C1⟩
  rw [wp_ret]
  imodintro
  unfold val711
  iapply Hk
  iframe G6 HO C0 C1

/-- Part 21 on device `c`. -/
theorem part_21 (c : Dev nD) (Kt : (BitVec 32) → sProp 𝕄) :
    iprop(records m ρ K ∗ ow (F := F) c 0 ∗ RecvC (F := F) c 2 ∗ RecvC (F := F) c 3 ∗ RecvC (F := F) c 4 ∗ RecvC (F := F) c 5
        ∗ ((ow (F := F) c 0 ∗ GotC m ρ c 2 ∗ GotC m ρ c 3 ∗ GotC m ρ c 4 ∗ GotC m ρ c 5) -∗ Kt (val761 c)))
      ⊢ wp frame (wpE (defs₀ (F := F)) 𝒱₀ (c : Thread nD τ) none) Set.univ
          (k0_part21 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c)) Kt := by
  rw [k0_part21_eq_skeleton]
  unfold k0_part21_skel
  simp only [semSignalWord, semWaitWord, Prog.lift, Prog.bind_op, Prog.bind_ret, Prog.pure_eq_ret, wp_deviceId]
  iintro ⟨#HR, HO, RC2, RC3, RC4, RC5, Hk⟩
  iapply (wp_recvC m ρ K c 2 _ (congrArg SemLoc.dma (sem_recv_c (k0_off5_eq c 2)))) $$ [HO RC2]
  · iframe HR HO RC2
  iintro ⟨HO, C2⟩
  iapply (wp_recvC m ρ K c 3 _ (congrArg SemLoc.dma (sem_recv_c (k0_off5_eq c 3)))) $$ [HO RC3]
  · iframe HR HO RC3
  iintro ⟨HO, C3⟩
  iapply (wp_recvC m ρ K c 4 _ (congrArg SemLoc.dma (sem_recv_c (k0_off5_eq c 4)))) $$ [HO RC4]
  · iframe HR HO RC4
  iintro ⟨HO, C4⟩
  iapply (wp_recvC m ρ K c 5 _ (congrArg SemLoc.dma (sem_recv_c (k0_off5_eq c 5)))) $$ [HO RC5]
  · iframe HR HO RC5
  iintro ⟨HO, C5⟩
  rw [wp_ret]
  imodintro
  unfold val761
  iapply Hk
  iframe HO C2 C3 C4 C5

/-- Part 22 on device `c`. -/
theorem part_22 (c : Dev nD) (f0 : Vec F S512x512 .f32) (Kt : (PUnit) → sProp 𝕄) :
    iprop(records m ρ K ∗ ow (F := F) c 0 ∗ RecvC (F := F) c 6 ∗ cPts c c (shareDrop fullShare 7) (call m ρ) ∗ GotC m ρ c 0 ∗ GotC m ρ c 1 ∗ GotC m ρ c 2 ∗ GotC m ρ c 3 ∗ GotC m ρ c 4 ∗ GotC m ρ c 5 ∗ oPts c f0 ∗ SentW (F := F) c 0 ∗ SentC (F := F) c 0
        ∗ ((ow (F := F) c 0 ∗ GotC m ρ c 6 ∗ cPts c c (shareDrop fullShare 7) (call m ρ) ∗ GotC m ρ c 0 ∗ GotC m ρ c 1 ∗ GotC m ρ c 2 ∗ GotC m ρ c 3 ∗ GotC m ρ c 4 ∗ GotC m ρ c 5 ∗ oPts c (outAt m ρ c) ∗ DoneW m ρ c 0 ∗ DoneC m ρ c 0) -∗ Kt ⟨⟩))
      ⊢ wp frame (wpE (defs₀ (F := F)) 𝒱₀ (c : Thread nD τ) none) Set.univ
          (k0_part22 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c (val2 c) (val36 m ρ c) (val235 m ρ c) (val711 m ρ c) (val761 c)) Kt := by
  rw [k0_part22_eq_skeleton]
  unfold k0_part22_skel
  simp only [semSignalWord, semWaitWord, Prog.lift, Prog.bind_op, Prog.bind_ret, Prog.pure_eq_ret, wp_deviceId]
  iintro ⟨#HR, HO, RC6, HC, C0, C1, C2, C3, C4, C5, HOut, SW0, SC0, Hk⟩
  iapply (wp_recvC m ρ K c 6 _ (congrArg SemLoc.dma (sem_recv_c (k0_off5_eq c 6)))) $$ [HO RC6]
  · iframe HR HO RC6
  iintro ⟨HO, C6⟩
  iapply (wp_loadCL m ρ c) $$ [HC C0 C1 C2 C3 C4 C5 C6]
  · iframe HC C0 C1 C2 C3 C4 C5 C6
  iintro ⟨HC, C0, C1, C2, C3, C4, C5, C6⟩
  iapply (wp_storeO c f0) $$ HOut
  iintro HOut
  iapply (wp_doneW m ρ K c 0 _ (congrArg SemLoc.dma (sem_send_w (i := 0)))) $$ [HO SW0]
  · iframe HR HO SW0
  iintro ⟨HO, DW0⟩
  iapply (wp_doneC m ρ K c 0 _ (congrArg SemLoc.dma (sem_send_c (i := 0)))) $$ [HO SC0]
  · iframe HR HO SC0
  iintro ⟨HO, DC0⟩
  rw [wp_ret]
  imodintro
  unfold outAt
  iapply Hk
  iframe HO C6 HC C0 C1 C2 C3 C4 C5 HOut DW0 DC0

/-- Part 23 on device `c`. -/
theorem part_23 (c : Dev nD) (Kt : (PUnit) → sProp 𝕄) :
    iprop(records m ρ K ∗ ow (F := F) c 0 ∗ SentW (F := F) c 1 ∗ SentC (F := F) c 1 ∗ SentW (F := F) c 2 ∗ SentC (F := F) c 2 ∗ SentW (F := F) c 3 ∗ SentC (F := F) c 3 ∗ SentW (F := F) c 4
        ∗ ((ow (F := F) c 0 ∗ DoneW m ρ c 1 ∗ DoneC m ρ c 1 ∗ DoneW m ρ c 2 ∗ DoneC m ρ c 2 ∗ DoneW m ρ c 3 ∗ DoneC m ρ c 3 ∗ DoneW m ρ c 4) -∗ Kt ⟨⟩))
      ⊢ wp frame (wpE (defs₀ (F := F)) 𝒱₀ (c : Thread nD τ) none) Set.univ
          (k0_part23 xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5 c) Kt := by
  rw [k0_part23_eq_skeleton]
  unfold k0_part23_skel
  simp only [semSignalWord, semWaitWord, Prog.lift, Prog.bind_op, Prog.bind_ret, Prog.pure_eq_ret, wp_deviceId]
  iintro ⟨#HR, HO, SW1, SC1, SW2, SC2, SW3, SC3, SW4, Hk⟩
  iapply (wp_doneW m ρ K c 1 _ (congrArg SemLoc.dma (sem_send_w (i := 1)))) $$ [HO SW1]
  · iframe HR HO SW1
  iintro ⟨HO, DW1⟩
  iapply (wp_doneC m ρ K c 1 _ (congrArg SemLoc.dma (sem_send_c (i := 1)))) $$ [HO SC1]
  · iframe HR HO SC1
  iintro ⟨HO, DC1⟩
  iapply (wp_doneW m ρ K c 2 _ (congrArg SemLoc.dma (sem_send_w (i := 2)))) $$ [HO SW2]
  · iframe HR HO SW2
  iintro ⟨HO, DW2⟩
  iapply (wp_doneC m ρ K c 2 _ (congrArg SemLoc.dma (sem_send_c (i := 2)))) $$ [HO SC2]
  · iframe HR HO SC2
  iintro ⟨HO, DC2⟩
  iapply (wp_doneW m ρ K c 3 _ (congrArg SemLoc.dma (sem_send_w (i := 3)))) $$ [HO SW3]
  · iframe HR HO SW3
  iintro ⟨HO, DW3⟩
  iapply (wp_doneC m ρ K c 3 _ (congrArg SemLoc.dma (sem_send_c (i := 3)))) $$ [HO SC3]
  · iframe HR HO SC3
  iintro ⟨HO, DC3⟩
  iapply (wp_doneW m ρ K c 4 _ (congrArg SemLoc.dma (sem_send_w (i := 4)))) $$ [HO SW4]
  · iframe HR HO SW4
  iintro ⟨HO, DW4⟩
  rw [wp_ret]
  imodintro
  iapply Hk
  iframe HO DW1 DC1 DW2 DC2 DW3 DC3 DW4

end Cert.KernelIdeal.MoE

end
-- ==== Proof.KernelIdealBody.lean ====
/-
# `KernelIdealBody`: the body on device `c`

The parts in order: from the launch's resources, with nothing known of the scratch and of the result's buffer, to the
result `outAt`, every transfer's source back and every landing received.
-/
module

public import proofs.«01_k».proof.Proof.KernelIdealParts

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-- What the body takes: the staged arrays, its counts row, and for each peer the duties it pays and the landing it waits for. -/
def bodyIn (c : Dev nD) (f0 : Vec F S512x512 .f32) (f1 : Vec F S8x32 .i32) : sProp 𝕄 :=
  iprop(ow c (sigDue c ks) ∗ xPts m ρ c ∗ iPts m ρ c ∗ wPts m ρ c fullShare ∗ oPts c f0 ∗ cPts c c fullShare f1 ∗ BarW (F := F) c
    ∗ (bigSepL ks fun r => Sig (F := F) c r) ∗ (bigSepL ks fun r => TokW (F := F) c r) ∗ (bigSepL ks fun r => TokC (F := F) c r)
    ∗ (bigSepL ks fun r => RecvW (F := F) c r) ∗ bigSepL ks fun r => RecvC (F := F) c r)
/-- What it leaves. -/
def bodyOut (c : Dev nD) : sProp 𝕄 :=
  iprop(ow (F := F) c 0 ∗ xPts m ρ c ∗ iPts m ρ c ∗ wPts m ρ c (shareDrop fullShare 7) ∗ oPts c (outAt m ρ c) ∗ cPts c c (shareDrop fullShare 7) (call m ρ)
    ∗ atPos ER (cell c bar) 1 ∅ 0
    ∗ (bigSepL ks fun r => DoneW m ρ c r) ∗ (bigSepL ks fun r => DoneC m ρ c r) ∗ (bigSepL ks fun r => GotW m ρ c r) ∗ bigSepL ks fun r => GotC m ρ c r)

set_option maxHeartbeats 4000000 in
/-- The body on device `c`. -/
theorem sound_body (c : Dev nD) (f0 : Vec F S512x512 .f32) (f1 : Vec F S8x32 .i32) (Kt : PUnit → sProp 𝕄) :
    iprop(records m ρ K ∗ levAts L lv ∗ bodyIn m ρ c f0 f1 ∗ (bodyOut m ρ c -∗ |={Set.univ}=> Kt ⟨⟩))
      ⊢ wp frame (wpE (defs₀ (F := F)) 𝒱₀ (c : Thread nD τ) none) Set.univ
          (cc0_body xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5) Kt := by
  rw [cc0_body_eq_skeleton]
  unfold cc0_body_skel
  simp only [k0_part24_eq_skeleton]
  unfold k0_part24_skel
  simp only [Prog.lift, Prog.bind_op, Prog.bind_ret, Prog.pure_eq_ret, wp_bind]
  unfold bodyIn bodyOut ks
  simp only [bigSepL_cons', bigSepL_nil]
  iintro ⟨#HR, #Hlev, ⟨HO, HX, HI, HWf, HOut, HC, HB, ⟨S0, S1, S2, S3, S4, S5, S6, -⟩, ⟨TW0, TW1, TW2, TW3, TW4, TW5, TW6, -⟩, ⟨TC0, TC1, TC2, TC3, TC4, TC5, TC6, -⟩, ⟨RW0, RW1, RW2, RW3, RW4, RW5, RW6, -⟩, ⟨RC0, RC1, RC2, RC3, RC4, RC5, RC6, -⟩⟩, Hk⟩
  ihave HW := (split_w m ρ c).mp $$ HWf
  unfold ks
  simp only [bigSepL_cons', bigSepL_nil]
  icases HW with ⟨HW, W0, W1, W2, W3, W4, W5, W6, -⟩
  iapply (part_1 m ρ K c _)
  iframe HR HO S0 S1 S2 S3 S4
  iintro HO
  try simp only [wp_bind]
  iapply (part_2 m ρ K c f1 _)
  iframe HR Hlev HO S5 S6 HB HI HC TW0 W0
  iintro ⟨HO, HB, PC0, PW1, PC1, PW2, PC2, PW3, PC3, PW4, PC4, PW5, PC5, PW6, PC6, HI, HC, SW0⟩
  try simp only [wp_bind]
  ihave HC := (split_c c c (call m ρ)).mp $$ HC
  unfold ks
  simp only [bigSepL_cons', bigSepL_nil]
  icases HC with ⟨HC, K0, K1, K2, K3, K4, K5, K6, -⟩
  iapply (part_3 m ρ K c _)
  iframe HR HO TC0 PC0 K0 TW1 PW1 W1 TC1 PC1 K1
  iintro ⟨HO, SC0, SW1, SC1⟩
  try simp only [wp_bind]
  iapply (part_4 m ρ K c _)
  iframe HR HO TW2 PW2 W2 TC2 PC2 K2 TW3 PW3 W3 TC3 PC3 K3
  iintro ⟨HO, SW2, SC2, SW3, SC3⟩
  try simp only [wp_bind]
  iapply (part_5 m ρ K c _)
  iframe HR HO TW4 PW4 W4 TC4 PC4 K4 TW5 PW5 W5 TC5 PC5 K5
  iintro ⟨HO, SW4, SC4, SW5, SC5⟩
  try simp only [wp_bind]
  iapply (part_6 m ρ K c _)
  iframe HR HO TW6 PW6 W6 TC6 PC6 K6 HX HW
  iintro ⟨HO, SW6, SC6, HX, HW⟩
  try simp only [wp_bind]
  iapply (part_7 m ρ K c _)
  iframe HR HW
  iintro HW
  try simp only [wp_bind]
  iapply (part_8 m ρ K c _)
  iframe HR HO RW0
  iintro ⟨HO, G0⟩
  try simp only [wp_bind]
  iapply (part_9 m ρ K c _)
  iframe HR G0
  iintro G0
  try simp only [wp_bind]
  iapply (part_10 m ρ K c _)
  iframe HR HO RW1
  iintro ⟨HO, G1⟩
  try simp only [wp_bind]
  iapply (part_11 m ρ K c _)
  iframe HR G1 HO RW2
  iintro ⟨G1, HO, G2⟩
  try simp only [wp_bind]
  iapply (part_12 m ρ K c _)
  iframe HR G2
  iintro G2
  try simp only [wp_bind]
  iapply (part_13 m ρ K c _)
  iframe HR G2 HO RW3
  iintro ⟨G2, HO, G3⟩
  try simp only [wp_bind]
  iapply (part_14 m ρ K c _)
  iframe HR G3
  iintro G3
  try simp only [wp_bind]
  iapply (part_15 m ρ K c _)
  iframe HR HO RW4
  iintro ⟨HO, G4⟩
  try simp only [wp_bind]
  iapply (part_16 m ρ K c _)
  iframe HR G4
  iintro G4
  try simp only [wp_bind]
  iapply (part_17 m ρ K c _)
  iframe HR HO RW5
  iintro ⟨HO, G5⟩
  try simp only [wp_bind]
  iapply (part_18 m ρ K c _)
  iframe HR G5 HO RW6
  iintro ⟨G5, HO, G6⟩
  try simp only [wp_bind]
  iapply (part_19 m ρ K c _)
  iframe HR G6
  iintro G6
  try simp only [wp_bind]
  iapply (part_20 m ρ K c _)
  iframe HR G6 HO RC0 RC1
  iintro ⟨G6, HO, C0, C1⟩
  try simp only [wp_bind]
  iapply (part_21 m ρ K c _)
  iframe HR HO RC2 RC3 RC4 RC5
  iintro ⟨HO, C2, C3, C4, C5⟩
  try simp only [wp_bind]
  iapply (part_22 m ρ K c f0 _)
  iframe HR HO RC6 HC C0 C1 C2 C3 C4 C5 HOut SW0 SC0
  iintro ⟨HO, C6, HC, C0, C1, C2, C3, C4, C5, HOut, DW0, DC0⟩
  try simp only [wp_bind]
  iapply (part_23 m ρ K c _)
  iframe HR HO SW1 SC1 SW2 SC2 SW3 SC3 SW4
  iintro ⟨HO, DW1, DC1, DW2, DC2, DW3, DC3, DW4⟩
  try simp only [wp_bind]
  iapply (wp_doneC m ρ K c 4 _ (congrArg SemLoc.dma (sem_send_c (i := 4)))) $$ [HO SC4]
  · iframe HR HO SC4
  iintro ⟨HO, DC4⟩
  iapply (wp_doneW m ρ K c 5 _ (congrArg SemLoc.dma (sem_send_w (i := 5)))) $$ [HO SW5]
  · iframe HR HO SW5
  iintro ⟨HO, DW5⟩
  iapply (wp_doneC m ρ K c 5 _ (congrArg SemLoc.dma (sem_send_c (i := 5)))) $$ [HO SC5]
  · iframe HR HO SC5
  iintro ⟨HO, DC5⟩
  iapply (wp_doneW m ρ K c 6 _ (congrArg SemLoc.dma (sem_send_w (i := 6)))) $$ [HO SW6]
  · iframe HR HO SW6
  iintro ⟨HO, DW6⟩
  rw [wp_ret]
  imodintro
  iapply (wp_doneC m ρ K c 6 _ (congrArg SemLoc.dma (sem_send_c (i := 6)))) $$ [HO SC6]
  · iframe HR HO SC6
  iintro ⟨HO, DC6⟩
  rw [wp_ret]
  iapply Hk
  iframe HO HX HI HW HOut HC HB DW0 DW1 DW2 DW3 DW4 DW5 DW6 DC0 DC1 DC2 DC3 DC4 DC5 DC6 G0 G1 G2 G3 G4 G5 G6 C0 C1 C2 C3 C4 C5 C6
  repeat (isplitl []; · iempintro)
  iempintro

end Cert.KernelIdeal.MoE

end
-- ==== Proof.KernelIdealLaunch.lean ====
/-
# `KernelIdealLaunch`: what the launch deals each device

The semaphores at zero become the cells' invariants; the duty tokens, minted at the cells that the duties fill, go to
the devices that pay them; the credits each device starts with are what its peers owe its cells.
-/
module

public import proofs.«01_k».proof.Proof.KernelIdealSteps

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)
open Idealize.ShloMosaic.Pipeline (Dat Cfg Window BodyObligation cellOf)
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ) (ρ : Dev nD → PrngReg)

/-! ## Conjunctions over a device's cells -/

section Conj
omit [FloatOps F]

theorem sep_emp_eq (P : sProp 𝕄) : iprop(P ∗ BI.emp) = P :=
  Entails.antisymm (show iprop(P ∗ BI.emp) ⊢ P by iintro ⟨H, -⟩; iexact H) (show P ⊢ iprop(P ∗ BI.emp) by iintro H; isplitl [H] <;> [iexact H; iempintro])
/-- A conjunction over the peers' numbers. -/
theorem bigSep_ks (Φ : Fin 7 → sProp 𝕄) : bigSep Finset.univ Φ = bigSepL ks Φ := bigSep_univ_eq_bigSepL ks (by decide) (by decide) Φ

/-- A conjunction over a device's transfer cells, those named after the device itself apart. -/
theorem bigSep_cj (c : Dev nD) (Φ : CJ → sProp 𝕄) :
    bigSep Finset.univ Φ = iprop(((bigSepL ks fun r => Φ (.inl (.inl r))) ∗ Φ (.inl (.inr c)) ∗ bigSepL ks fun r => Φ (.inl (.inr (peer c r))))
      ∗ (bigSepL ks fun r => Φ (.inr (.inl r))) ∗ Φ (.inr (.inr c)) ∗ bigSepL ks fun r => Φ (.inr (.inr (peer c r)))) := by
  rw [BI.bigSep_univ_sum, BI.bigSep_univ_sum, BI.bigSep_univ_sum (fun b => Φ (.inr b)), bigSep_ks, bigSep_ks,
    bigSep_dev c (fun s => Φ (.inl (.inr s))), bigSep_dev c (fun s => Φ (.inr (.inr s)))]
  rfl

/-- A conjunction over all of a device's cells. -/
theorem bigSep_ck (c : Dev nD) (Φ : CK → sProp 𝕄) :
    bigSep Finset.univ Φ = iprop(Φ bar ∗ ((bigSepL ks fun r => Φ (sw r)) ∗ Φ (rw' c) ∗ bigSepL ks fun r => Φ (rw' (peer c r)))
      ∗ (bigSepL ks fun r => Φ (sc r)) ∗ Φ (rc c) ∗ bigSepL ks fun r => Φ (rc (peer c r))) := by
  rw [BI.bigSep_univ_sum, bigSep_cj c (fun j => Φ (.inr j)), bigSep_univ_eq_bigSepL [()] (by decide) (by decide), bigSepL_cons', bigSepL_nil]
  exact congrArg (fun x : sProp 𝕄 => iprop(x ∗ _)) (sep_emp_eq _)

/-- What every device holds of every device, handed over: of each peer, what is named after the receiver. -/
theorem hand_over (Φ : Dev nD → Dev nD → sProp 𝕄) :
    (bigSep Finset.univ fun c => bigSep Finset.univ fun s => Φ c s) ⊢ bigSep Finset.univ fun c => bigSepL ks fun r => Φ (peer c r) c := by
  rw [Pipeline.bigSep_univ_comm]
  refine bigSep_mono fun c _ => ?_
  rw [bigSep_dev c (fun d => Φ d c)]
  refine (show iprop(Φ c c ∗ bigSepL ks fun r => Φ (peer c r) c) ⊢ _ from ?_)
  iintro ⟨-, H⟩
  iexact H

theorem bigSep_beside {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  refine (sep_mono_left (BI.bigSep_of_persistent S R)).trans ?_
  rw [← bigSep_sep']
  exact bigSep_mono fun i _ => h i

end Conj

/-! ## The launch element -/

theorem cellAt_injective : Function.Injective (fun p : Dev nD × CK => cell p.1 p.2) := fun a b h =>
  Prod.ext (cell_inj h).1 (cell_inj h).2
def cellSet : Finset (GSem nD τ sig) := Finset.univ.map ⟨_, cellAt_injective⟩

/-- A duty token as minted: at a device's barrier cell one per device, at each of its transfer cells one. -/
def tokAt (p : Dev nD × (Dev nD ⊕ CJ)) : GSem nD τ sig × ℕ × Dev nD :=
  match p.2 with
  | .inl q => (cell p.1 bar, 0, q)
  | .inr j => (cell p.1 (.inr j), 0, 0)

theorem tokAt_injective : Function.Injective tokAt := by
  rintro ⟨c, q | j⟩ ⟨c', q' | j'⟩ h
  · obtain ⟨h1, -⟩ := cell_inj (congrArg Prod.fst h)
    have h2 : q = q' := congrArg (fun x => x.2.2) h
    exact Prod.ext h1 (congrArg Sum.inl h2)
  · exact absurd (cell_inj (congrArg Prod.fst h)).2 (fun h' => by cases h')
  · exact absurd (cell_inj (congrArg Prod.fst h)).2 (fun h' => by cases h')
  · obtain ⟨h1, h2⟩ := cell_inj (congrArg Prod.fst h)
    exact Prod.ext h1 (congrArg Sum.inr (Sum.inr.inj h2))
def tokSet : Finset (GSem nD τ sig × ℕ × Dev nD) := Finset.univ.map ⟨_, tokAt_injective⟩

/-- The launch element: the pipeline's part and the exchange's. -/
def u₀ : UU := (initOf (Pipeline.cells cfgs cellOf_inj) (Pipeline.launchToks cfgs cellOf_inj), initOf cellSet tokSet)

section Deal
omit [FloatOps F]

/-- The tokens of device `c`'s own cells. -/
def minted (c : Dev nD) : sProp 𝕄 :=
  iprop((bigSep Finset.univ fun q : Dev nD => dutyTok ER (cell c bar) 0 q)
    ∗ ((bigSep Finset.univ fun r : Fin 7 => dutyTok ER (cell c (sw r)) 0 0) ∗ bigSep Finset.univ fun s : Dev nD => dutyTok ER (cell c (rw' s)) 0 0)
    ∗ (bigSep Finset.univ fun r : Fin 7 => dutyTok ER (cell c (sc r)) 0 0) ∗ bigSep Finset.univ fun s : Dev nD => dutyTok ER (cell c (rc s)) 0 0)
/-- The tokens of the duties device `c` pays. -/
def pays (c : Dev nD) : sProp 𝕄 :=
  iprop((bigSepL ks fun r => dutyTok ER (cell (peer c r) bar) 0 c)
    ∗ ((bigSepL ks fun r => dutyTok ER (cell c (sw r)) 0 0) ∗ bigSepL ks fun r => dutyTok ER (cell (peer c r) (rw' c)) 0 0)
    ∗ (bigSepL ks fun r => dutyTok ER (cell c (sc r)) 0 0) ∗ bigSepL ks fun r => dutyTok ER (cell (peer c r) (rc c)) 0 0)

theorem deal : (bigSep Finset.univ fun c => (minted c : sProp 𝕄)) ⊢ bigSep Finset.univ fun c => pays c := by
  unfold minted pays
  simp only [bigSep_sep', bigSep_ks]
  iintro ⟨H1, ⟨H2, H3⟩, H4, H5⟩
  isplitl [H1]; · iapply (hand_over (F := F) fun c q => dutyTok ER (cell c bar) 0 q) $$ H1
  isplitl [H2 H3]
  · isplitl [H2]; · iexact H2
    iapply (hand_over (F := F) fun c s => dutyTok ER (cell c (rw' s)) 0 0) $$ H3
  isplitl [H4]; · iexact H4
  iapply (hand_over (F := F) fun c s => dutyTok ER (cell c (rc s)) 0 0) $$ H5

end Deal

/-- Device `c`'s part of the launch element. -/
def G (c : Dev nD) : sProp 𝕄 :=
  iprop((bigSep Finset.univ fun k : CK => roundState ER (Rd m ρ) (cell c k) 0)
    ∗ (bigSep Finset.univ fun k : CK => atPos ER (cell c k) 0 ∅ 0) ∗ (bigSep Finset.univ fun k : CK => reached ER (cell c k) 0) ∗ minted c)

theorem fund_cells : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : CK => Φ (cell c k) := by
    unfold cellSet; rw [bigSep_map, bigSep_univ_prod]; rfl
  have hT : bigSep tokSet (fun x => (dutyTok ER x.1 x.2.1 x.2.2 : sProp 𝕄)) = bigSep Finset.univ fun c : Dev nD => minted c := by
    unfold tokSet; rw [bigSep_map, bigSep_univ_prod]
    refine bigSep_congr fun c _ => ?_
    unfold minted
    rw [BI.bigSep_univ_sum, BI.bigSep_univ_sum, BI.bigSep_univ_sum, BI.bigSep_univ_sum]
    rfl
  have h := Rounds.fund ER (Rd m ρ) cellSet tokSet
  rw [hX, hX, hX, hT] at h
  iintro HX
  imod h $$ HX with ⟨Hst, Hr, Hat, Htok⟩
  imodintro
  unfold G
  simp only [bigSep_sep']
  iframe

/-! ## The semaphores -/

/-- The kernel's own semaphores are its transfer cells'. -/
def osem : CJ → SemLoc sig := fun j => csem (.inr j)
theorem ownSemFacts : Pipeline.OwnSemFacts cfg0.spec osem := by decide +kernel

theorem sems_cells (c : Dev nD) :
    (iprop(Pipeline.ownSems0 (Ix := Unit) (Name := ℕ) (U := UU) (Lvl := ℕ) (Val := Elt F) (τ := τ) osem c ∗ unscopedSems0 c) : sProp 𝕄)
      = iprop((bigSep Finset.univ fun j : CJ => semVal (cell c (.inr j)) 0) ∗ semVal (cell c bar) 0) := by
  unfold Pipeline.ownSems0 unscopedSems0
  rw [bigSep_eq_bigSepL_of_eq [SemLoc.reg barS] (by decide) (by decide)]; rfl
theorem sems_bigSep (c : Dev nD) :
    (bigSep Finset.univ fun k : CK => (semVal (cell c k) 0 : sProp 𝕄)) = iprop(semVal (cell c bar) 0 ∗ bigSep Finset.univ fun j : CJ => semVal (cell c (.inr j)) 0) := by
  rw [BI.bigSep_univ_sum, bigSep_univ_eq_bigSepL [()] (by decide) (by decide), bigSepL_cons', bigSepL_nil]
  exact congrArg (fun x : sProp 𝕄 => iprop(x ∗ _)) (sep_emp_eq _)

/-- What device `c` starts with beside the records of all cells: its positions and the tokens it pays. -/
def mine (c : Dev nD) : sProp 𝕄 := iprop((bigSep Finset.univ fun k : CK => atPos ER (cell c k) 0 ∅ 0) ∗ pays c)
def G' (c : Dev nD) : sProp 𝕄 := iprop(∃ K, records m ρ K ∗ mine c)

/-- The same with the semaphores made the cells' invariants. -/
def made (c : Dev nD) : sProp 𝕄 :=
  iprop((bigSep Finset.univ fun k : CK => iprop(∃ κ : ℕ, cellInv ER (Rd m ρ) κ (cell c k)))
    ∗ (bigSep Finset.univ fun k : CK => atPos ER (cell c k) 0 ∅ 0) ∗ (bigSep Finset.univ fun k : CK => reached ER (cell c k) 0) ∗ minted c)

theorem alloc_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> made m ρ c := by
  have hinv : iprop((bigSep Finset.univ fun k : CK => semVal (cell c k) 0) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) := by
    rw [← bigSep_sep']
    exact (bigSep_mono fun k _ => (Rounds.body_intro ER (Rd m ρ) (cell c k)).trans inv_alloc).trans (bigSep_fupd _ _)
  unfold G made
  iintro ⟨Ho, Hu, Hst, Hat, Hr, Ht⟩
  ihave Hv := (Entails.of_eq (sems_cells (F := F) c)) $$ [Ho Hu]
  · isplitl [Ho] <;> iassumption
  icases Hv with ⟨Hj, Hb⟩
  imod hinv $$ [Hj Hb Hst] with Hinv
  · isplitl [Hj Hb]
    · rw [sems_bigSep]
      isplitl [Hb] <;> iassumption
    iexact Hst
  imodintro
  iframe

theorem made_all : (bigSep Finset.univ fun c => made m ρ c)
    = iprop((bigSep Finset.univ fun p : Dev nD × CK => iprop(∃ κ : ℕ, cellInv ER (Rd m ρ) κ (cell p.1 p.2)))
      ∗ (bigSep Finset.univ fun c : Dev nD => bigSep Finset.univ fun k : CK => atPos ER (cell c k) 0 ∅ 0)
      ∗ (bigSep Finset.univ fun p : Dev nD × CK => reached ER (cell p.1 p.2) 0) ∗ bigSep Finset.univ fun c => minted c) := by
  unfold made
  rw [bigSep_sep', bigSep_sep', bigSep_sep', ← bigSep_univ_prod (fun p : Dev nD × CK => iprop(∃ κ : ℕ, cellInv ER (Rd m ρ) κ (cell p.1 p.2))),
    ← bigSep_univ_prod (fun p : Dev nD × CK => (reached ER (cell p.1 p.2) 0 : sProp 𝕄))]

/-- All devices' semaphores and launch parts at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  have h : (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ fun c => made m ρ c :=
    (bigSep_mono fun c _ => alloc_cells m ρ c).trans (bigSep_fupd _ _)
  rw [made_all] at h
  iintro H
  imod h $$ H with ⟨Hi, Hat, #Hr, Ht⟩
  imodintro
  ihave HK := (BI.bigSep_exists_pi Finset.univ (fun (p : Dev nD × CK) (κ : ℕ) => (cellInv ER (Rd m ρ) κ (cell p.1 p.2) : sProp 𝕄))) $$ Hi
  icases HK with ⟨%K, #HI⟩
  ihave Hp := (deal (F := F)) $$ Ht
  iapply (bigSep_beside (R := records m ρ K) (Φ := fun c => mine c) fun c => by
    unfold G'; iintro ⟨#HR, H⟩; iexists K; isplitr; · iexact HR
    iexact H)
  isplitr
  · unfold records; isplitr; · iexact HI
    iexact Hr
  · unfold mine
    rw [bigSep_sep']
    iframe

/-! ## The launch credit -/

/-- How many of the peers' duties named in a device's list are at device `c`'s cell `k`. -/
def nBar (c : Dev nD) (k : CK) : ℕ := ∑ d : Dev nD, (ks.map fun r => if c = peer d r ∧ k = bar then 1 else 0).sum
def nW (c : Dev nD) (k : CK) : ℕ := ∑ d : Dev nD, (ks.map fun r => if c = peer d r ∧ k = rw' d then 1 else 0).sum
def nC (c : Dev nD) (k : CK) : ℕ := ∑ d : Dev nD, (ks.map fun r => if c = peer d r ∧ k = rc d then 1 else 0).sum

theorem tallyAt_cell (d c : Dev nD) (k' k : CK) (n : ℕ) :
    tallyAt (cell d k') () n (cell c k) () = (if c = d ∧ k = k' then 1 else 0) * n := by
  rw [tallyAt_apply]
  by_cases h : c = d ∧ k = k'
  · obtain ⟨rfl, rfl⟩ := h
    rw [if_pos ⟨rfl, rfl⟩, if_pos ⟨rfl, rfl⟩, Nat.one_mul]
  · rw [if_neg h, if_neg fun h' => h (cell_inj h'.1), Nat.zero_mul]

theorem sendDue_cell (d c : Dev nD) (k : CK) (l : List (Fin 7)) :
    sendDue d l (cell c k) () = (l.map fun r => if c = peer d r ∧ k = rc d then 1 else 0).sum * NC
      + (l.map fun r => if c = peer d r ∧ k = rw' d then 1 else 0).sum * NW := by
  induction l with
  | nil => show 0 = 0 * NC + 0 * NW; rw [Nat.zero_mul, Nat.zero_mul]
  | cons r l ih =>
    unfold sendDue
    rw [Pi.add_apply, Finsupp.add_apply, Pi.add_apply, Finsupp.add_apply, ih, tallyAt_cell, tallyAt_cell, List.map_cons, List.sum_cons, List.map_cons, List.sum_cons,
      Nat.add_mul, Nat.add_mul]
    generalize (_ : ℕ) * NC = a
    omega

theorem sigDue_cell (d c : Dev nD) (k : CK) (l : List (Fin 7)) :
    sigDue d l (cell c k) () = sendDue d ks (cell c k) () + (l.map fun r => if c = peer d r ∧ k = bar then 1 else 0).sum := by
  induction l with
  | nil => rfl
  | cons r l ih =>
    unfold sigDue
    rw [Pi.add_apply, Finsupp.add_apply, ih, tallyAt_cell, List.map_cons, List.sum_cons, Nat.mul_one, Nat.add_assoc, Nat.add_comm (List.sum _) (if c = peer d r ∧ k = bar then 1 else 0)]

theorem owed_cell (c : Dev nD) (k : CK) : (∑ d : Dev nD, O₀ d (cell c k) ()) = nC c k * NC + nW c k * NW + nBar c k := by
  unfold O₀ nC nW nBar
  rw [Finset.sum_mul, Finset.sum_mul, ← Finset.sum_add_distrib, ← Finset.sum_add_distrib]
  exact Finset.sum_congr rfl fun d _ => by rw [sigDue_cell, sendDue_cell]

theorem n_bar : ∀ c, nC c bar = 0 ∧ nW c bar = 0 ∧ nBar c bar = 7 := by decide +kernel
theorem n_w : ∀ c r, nC c (rw' (peer c r)) = 0 ∧ nW c (rw' (peer c r)) = 1 ∧ nBar c (rw' (peer c r)) = 0 := by decide +kernel
theorem n_c : ∀ c r, nC c (rc (peer c r)) = 1 ∧ nW c (rc (peer c r)) = 0 ∧ nBar c (rc (peer c r)) = 0 := by decide +kernel

theorem launch_cell (c : Dev nD) (k : CK) (n : ℕ) (h : nC c k * NC + nW c k * NW + nBar c k = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, owed_cell, h]

omit [FloatOps F] in
/-- The credits device `c` starts with. -/
theorem creds (c : Dev nD) :
    (Pipeline.launchCred O₀ c : sProp 𝕄) ⊢ iprop(cred (tallyAt (cell c bar) () 7)
      ∗ (bigSepL ks fun r => cred (tallyAt (cell c (rw' (peer c r))) () NW)) ∗ bigSepL ks fun r => cred (tallyAt (cell c (rc (peer c r))) () NC)) := by
  unfold Pipeline.launchCred
  refine (bigSep_subset (t := Finset.univ.map ⟨csem, csem_injective⟩) (Finset.subset_univ _)).trans ?_
  rw [bigSep_map]
  refine (Entails.of_eq (bigSep_ck c fun k => cred (tallyOn (cell c k) (launchCredit (Pipeline.owing O₀) 0 (cell c k))))).trans ?_
  have hb := launch_cell c bar 7 (by obtain ⟨h1, h2, h3⟩ := n_bar c; rw [h1, h2, h3, Nat.zero_mul, Nat.zero_mul])
  have hw := fun r => launch_cell c (rw' (peer c r)) NW (by obtain ⟨h1, h2, h3⟩ := n_w c r; rw [h1, h2, h3, Nat.zero_mul, Nat.one_mul, Nat.zero_add, Nat.add_zero])
  have hc := fun r => launch_cell c (rc (peer c r)) NC (by obtain ⟨h1, h2, h3⟩ := n_c c r; rw [h1, h2, h3, Nat.zero_mul, Nat.one_mul, Nat.add_zero])
  simp only [hb, hw, hc]
  iintro ⟨H1, ⟨-, -, H2⟩, -, -, H3⟩
  iframe

end Cert.KernelIdeal.MoE

end
-- ==== Proof.KernelIdealRun.lean ====
/-
# `KernelIdealRun`: the run of the eight devices

Every weakly fair execution ends; each device's result array then holds `outAt`, the four arguments are unchanged and
every semaphore counter is zero.
-/
module

public import proofs.«01_k».proof.Proof.KernelIdealBody
public import proofs.«01_k».proof.Proof.KernelIdealLaunch
public import proofs.«01_k».proof.Proof.Gen.KernelIdeal.Points
public import Idealize.ShloMosaic.Lib.Pipeline.CollectiveSegs

@[expose] public section

noncomputable section

namespace Cert.KernelIdeal.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)
open Idealize.ShloMosaic.Pipeline (Dat Cfg Window BodyObligation cellOf)
open Idealize.ShloMosaic.ValueIdx (ix1 ix2 ix3)

variable {F : FTy → Type} [FloatOps F]
local notation "𝕄" => MT nD τ sig Unit (Elt F) ℕ UU ℕ
variable (m : (ℓ : Loc nD τ sig) → Buf (Elt F) ℓ) (ρ : Dev nD → PrngReg)

/-! ## Into the body -/

omit [FloatOps F] in
theorem ks_sep (Φ Ψ : Fin 7 → sProp 𝕄) : (bigSepL ks fun r => iprop(Φ r ∗ Ψ r)) = iprop(bigSepL ks Φ ∗ bigSepL ks Ψ) := by
  rw [← bigSep_ks, ← bigSep_ks, ← bigSep_ks, bigSep_sep']

omit [FloatOps F] in
/-- The expert buffer is its windows. -/
theorem windows_whole (c : Dev nD) (f : Vec F S32x256x512 .bf16) :
    ((c : Thread nD τ).loc cc0_scratch0 ↦{fullShare} f : sProp 𝕄) = iprop(gPts c c f ∗ bigSepL ks fun r => gPts c (peer c r) f) := by
  rw [← bigSep_dev c (fun s => gPts c s f)]
  unfold gPts
  rw [← pointsTo_biUnion (ℓ := (c : Thread nD τ).loc cc0_scratch0) Finset.univ gSet (fun s _ t _ h => gSet_disj h)]
  exact congrArg (fun S => ((c : Thread nD τ).loc cc0_scratch0 ↦[S]{fullShare} f : sProp 𝕄)) gSet_cover.symm

/-- The credits device `c` starts with. -/
def myCreds (c : Dev nD) : sProp 𝕄 :=
  iprop(cred (tallyAt (cell c bar) () 7)
    ∗ (bigSepL ks fun r => cred (tallyAt (cell c (rw' (peer c r))) () NW)) ∗ bigSepL ks fun r => cred (tallyAt (cell c (rc (peer c r))) () NC))
def scr0 (c : Dev nD) (f : Vec F S32x256x512 .bf16) : sProp 𝕄 := (c : Thread nD τ).loc cc0_scratch0 ↦{fullShare} f
def scr1 (c : Dev nD) (f : Vec F S8x32 .i32) : sProp 𝕄 := (c : Thread nD τ).loc cc0_scratch1 ↦{fullShare} f
/-- What stays aside during the body: the positions of the two cells named after `c` itself, and `c`'s own window. -/
def aside (c : Dev nD) (f : Vec F S32x256x512 .bf16) : sProp 𝕄 :=
  iprop(atPos ER (cell c (rw' c)) 0 ∅ 0 ∗ atPos ER (cell c (rc c)) 0 ∅ 0 ∗ gPts c c f)

theorem enter (c : Dev nD) (f : Vec F S32x256x512 .bf16) (g : Vec F S8x32 .i32) (h : Vec F S512x512 .f32) :
    iprop((ow c (O₀ c) ∗ xPts m ρ c ∗ iPts m ρ c ∗ wPts m ρ c fullShare ∗ oPts c h) ∗ mine c ∗ myCreds c ∗ scr0 c f ∗ scr1 c g)
      ⊢ iprop(bodyIn m ρ c h g ∗ aside c f) := by
  have hsig : iprop((bigSepL ks fun r => dutyTok ER (cell (peer c r) bar) 0 c) ∗ (bigSepL ks fun r => gPts (F := F) c (peer c r) f)
      ∗ bigSepL ks fun r => cPts c (peer c r) fullShare g) ⊢ bigSepL ks fun r => Sig c r := by
    rw [← ks_sep, ← ks_sep]
    refine bigSepL_mono fun r _ => ?_
    unfold Sig
    refine (show iprop(dutyTok ER (cell (peer c r) bar) 0 c ∗ gPts (F := F) c (peer c r) f ∗ cPts c (peer c r) fullShare g) ⊢ _ from ?_)
    iintro ⟨H1, H2, H3⟩
    isplitl [H1]; · iexact H1
    isplitl [H2]; · iexists f; iexact H2
    iexists g; iexact H3
  unfold mine myCreds scr0 scr1 aside bodyIn
  rw [windows_whole, rows_whole]
  simp only [bigSep_ck c]
  unfold pays BarW TokW TokC RecvW RecvC
  simp only [ks_sep]
  iintro ⟨⟨HO, HX, HI, HW, HOut⟩, ⟨⟨A1, ⟨A2, A3, A4⟩, A5, A6, A7⟩, T1, ⟨T2, T3⟩, T4, T5⟩, ⟨C1, C2, C3⟩, ⟨G1, G2⟩, R1, R2⟩
  ihave HS := hsig $$ [T1 G2 R2]
  · iframe
  rw [show O₀ c = sigDue c ks from rfl]
  iframe

/-! ## Out of it -/

/-- A cell all of whose duties are past. -/
def Over (c : Dev nD) (k : CK) : sProp 𝕄 := iprop(∃ R, ⌜∀ r, R ≤ r → (Rd (F := F) m ρ).duties (cell c k) r = ∅⌝ ∗ atPos ER (cell c k) R ∅ 0)

theorem over_one (c : Dev nD) (k : CK) : atPos ER (cell c k) 1 ∅ 0 ⊢ Over m ρ c k := by
  unfold Over
  iintro H
  iexists 1
  isplitr; · ipureintro; exact duties_later m ρ _
  iexact H
/-- The receive cells named after the device itself have no duty. -/
theorem over_zero (c : Dev nD) (k : CK) (hk : dutiesOf c k = ∅) : atPos ER (cell c k) 0 ∅ 0 ⊢ Over m ρ c k := by
  unfold Over
  iintro H
  iexists 0
  isplitr
  · ipureintro
    intro r _
    cases r with
    | zero => rw [duties_cell, hk]
    | succ r => exact duties_later m ρ _ _ (Nat.succ_le_succ (Nat.zero_le r))
  iexact H

theorem close_cells (K : Dev nD × CK → ℕ) (c : Dev nD) :
    iprop(records m ρ K ∗ bigSep Finset.univ (Over m ρ c)) ⊢ |={Set.univ}=> bigSep Finset.univ fun k : CK => semVal (cell c k) 0 := by
  refine (bigSep_beside (Ψ := fun k => iprop(|={Set.univ}=> semVal (cell c k) 0)) fun k => ?_).trans (bigSep_fupd _ _)
  unfold Over
  iintro ⟨#HR, ⟨%R, %hR, H⟩⟩
  ihave HI := (inv_of m ρ K c k) $$ HR
  iapply (Rounds.cell_close ER (Rd m ρ) (Set.mem_univ (K (c, k))) (fun h => h) (R := R) hR)
  iframe HI H

/-- After the point: the gather buffers at some contents, and every cell closed. -/
def Φ₁ (c : Dev nD) : sProp 𝕄 :=
  iprop((∃ f, scr0 (F := F) c f) ∗ (∃ f, scr1 (F := F) c f) ∗ bigSep Finset.univ fun k : CK => semVal (cell c k) 0)

omit [FloatOps F] in
/-- The expert buffer's windows at contents of their own are the whole at some contents. -/
theorem windows_join (c : Dev nD) (f f' : Vec F S32x256x512 .bf16) :
    iprop(gPts c c f ∗ bigSepL ks fun r => gPts c (peer c r) f') ⊢ (iprop(∃ h, scr0 c h) : sProp 𝕄) := by
  have h : (bigSep Finset.univ fun s => (c : Thread nD τ).loc cc0_scratch0 ↦[gSet s]{fullShare} (if s = c then f else f') : sProp 𝕄) ⊢ _ :=
    pointsTo_biUnion_join (ℓ := (c : Thread nD τ).loc cc0_scratch0) Finset.univ gSet (fun s => if s = c then f else f') f (fun s _ t _ h => gSet_disj h)
  rw [bigSep_dev c, gSet_cover, if_pos rfl] at h
  simp only [if_neg (peer_ne c _)] at h
  unfold gPts scr0
  iintro H
  ihave H := h $$ H
  icases H with ⟨%g, -, H⟩
  iexists g; iexact H

theorem leave (K : Dev nD × CK → ℕ) (c : Dev nD) (f : Vec F S32x256x512 .bf16) :
    iprop(records m ρ K ∗ bodyOut m ρ c ∗ aside c f)
      ⊢ |={Set.univ}=> iprop((ow c 0 ∗ xPts m ρ c ∗ iPts m ρ c ∗ wPts m ρ c fullShare ∗ oPts c (outAt m ρ c)) ∗ Φ₁ c) := by
  unfold bodyOut aside DoneW DoneC GotW GotC Φ₁
  simp only [ks_sep]
  iintro ⟨#HR, ⟨HO, HX, HI, HW, HOut, HC, A1, ⟨A2, W⟩, ⟨A5, C⟩, ⟨A4, G⟩, A7, R⟩, A3, A6, G0⟩
  ihave HW := (split_w m ρ c).mpr $$ [HW W]
  · iframe
  ihave HC := (split_c c c (call m ρ)).mpr $$ [HC C]
  · iframe
  ihave HG := (windows_join c f (wall m ρ)) $$ [G0 G]
  · iframe
  ihave HC := (Entails.of_eq (rows_whole c fullShare (call m ρ)).symm) $$ [HC R]
  · iframe
  imod (close_cells m ρ K c) $$ [A1 A2 A3 A4 A5 A6 A7] with HZ
  · isplitr; · iexact HR
    rw [bigSep_ck c]
    isplitl [A1]; · iapply (over_one m ρ c bar) $$ A1
    isplitl [A2 A3 A4]
    · isplitl [A2]; · iapply (bigSepL_mono fun r _ => over_one m ρ c (sw r)) $$ A2
      isplitl [A3]; · iapply (over_zero m ρ c (rw' c) (if_pos rfl)) $$ A3
      iapply (bigSepL_mono fun r _ => over_one m ρ c (rw' (peer c r))) $$ A4
    isplitl [A5]; · iapply (bigSepL_mono fun r _ => over_one m ρ c (sc r)) $$ A5
    isplitl [A6]; · iapply (over_zero m ρ c (rc c) (if_pos rfl)) $$ A6
    iapply (bigSepL_mono fun r _ => over_one m ρ c (rc (peer c r))) $$ A7
  imodintro
  iframe HO HX HI HW HOut HG HZ
  iexists (call m ρ)
  unfold scr1
  iexact HC

/-! ## The pipeline's data -/

/-- Before the point: what the launch dealt, and the gather buffers at any contents. -/
def start (c : Dev nD) : sProp 𝕄 := iprop(G' m ρ c ∗ myCreds c ∗ levAts L lv)
def Φ₀ (c : Dev nD) : sProp 𝕄 := iprop(start m ρ c ∗ (∃ f, scr0 (F := F) c f) ∗ ∃ f, scr1 (F := F) c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s staging buffer `b` at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def post (c : Dev nD) : sProp 𝕄 :=
  iprop(Φ₁ c ∗ (dats m ρ 0 c).owesAt () t0_0.succ
    ∗ stg c cc0_stg0_0 (xstg m ρ c) ∗ stg c cc0_stg1_0 (istg m ρ c) ∗ stg c cc0_stg2_0 (wstg m ρ c) ∗ stg c cc0_stg3_0 (outAt m ρ c))

set_option maxHeartbeats 800000 in
theorem body_at (c : Dev nD) :
    pre m ρ c ⊢ wp frame (wpE (defs₀ (F := F)) 𝒱₀ (c : Thread nD τ) none) Set.univ
      (cc0_body xM (Memref.isWhole_whole _) iM (Memref.isWhole_whole _) wM (Memref.isWhole_whole _) oM (Memref.isWhole_whole _) gM (Memref.isWhole_whole _) cM (Memref.isWhole_whole _) cc0_scratch2 cc0_scratch3 cc0_scratch4 cc0_scratch5)
      (fun _ => post m ρ c) := by
  unfold pre Φ₀ start G'
  iintro ⟨⟨⟨⟨%K, #HR, HM⟩, Hcr, #Hlev⟩, ⟨%f, Hf⟩, ⟨%g, Hg⟩⟩, Ho, ⟨%d0, %g0, %h0, HX⟩, ⟨%d1, %g1, %h1, HI⟩, ⟨%d2, %g2, %h2, HW⟩, ⟨%d3, %g3, %h3, HOut⟩⟩
  have e0 : g0 = xstg m ρ c := by rw [h0]; unfold Dat.before; rw [if_pos (fetch0_0 t0_0)]; rfl
  have e1 : g1 = istg m ρ c := by rw [h1]; unfold Dat.before; rw [if_pos (fetch0_1 t0_0)]; rfl
  have e2 : g2 = wstg m ρ c := by rw [h2]; unfold Dat.before; rw [if_pos (fetch0_2 t0_0)]; rfl
  subst e0 e1 e2
  unfold Dat.owesAt Pipeline.owesWithin
  icases Ho with ⟨%W, %hW, HO⟩
  ihave HB := (enter m ρ c f g g3) $$ [HO HX HI HW HOut HM Hcr Hf Hg]
  · isplitl [HO HX HI HW HOut]
    · isplitl [HO]; · unfold ow; iexists W; iexact HO
      isplitl [HX]; · unfold xPts; iexact HX
      isplitl [HI]; · unfold iPts; iexact HI
      isplitl [HW]; · unfold wPts; iexact HW
      unfold oPts; iexact HOut
    iframe
  icases HB with ⟨HB, HA⟩
  iapply (sound_body m ρ K c g3 g (fun _ => post m ρ c))
  iframe HR Hlev HB
  iintro HB
  imod (leave m ρ K c f) $$ [HB HA] with ⟨⟨HO, HX, HI, HW, HOut⟩, HP⟩
  · iframe HR HB HA
  imodintro
  unfold post Dat.owesAt Pipeline.owesWithin ow xPts iPts wPts oPts
  icases HO with ⟨%W', HO⟩
  isplitl [HP]; · iexact HP
  isplitl [HO]
  · iexists W'
    isplitr; · ipureintro; exact fun _ _ => Or.inl trivial
    iexact HO
  isplitl [HX]
  · iexists _; isplitr; · (ipureintro; rfl)
    iexact HX
  isplitl [HI]
  · iexists _; isplitr; · (ipureintro; rfl)
    iexact HI
  isplitl [HW]
  · iexists _; isplitr; · (ipureintro; rfl)
    iexact HW
  iexists _; isplitr; · (ipureintro; rfl)
  iexact HOut

set_option maxRecDepth 20000 in
theorem body_obligation (c : Dev nD) : BodyObligation (dats (F := F) m ρ 0 c) (defs₀ (F := F)) 𝒱₀ () Set.univ := fun t => by
  rw [fin_N0 t]
  rw [bigSep_W0, bigSep_W0]
  simp only [owns_buf]
  exact body_at m ρ c

/-! ## The launch's side conditions -/

theorem share_full (c : Dev nD) (w : Fin cfg0.W) : (dats m ρ 0 c).share w = fullShare := by unfold Dat.share; split <;> rfl

/-- The one argument no window stages, kept aside for the whole run. -/
def routerPts (c : Dev nD) : sProp 𝕄 := (c : Thread nD τ).loc main_arg1 ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ routerPts m c) := by
  rw [Pipeline.unscopedRestP_none, unscopedRest0_eq]
  unfold start routerPts myCreds
  iintro ⟨HU, Hlev, Hcr, -, HG⟩
  ihave Hc := (creds (F := F) c) $$ Hcr
  imodintro
  iframe

theorem enter_phi (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr0 scr1
  iintro ⟨Hs, -, Hr⟩
  iframe

theorem leave_phi (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr0 scr1
  rw [sems_bigSep]
  iintro ⟨H0, H1, HB, HJ⟩
  ihave H := (Entails.of_eq (sems_cells (F := F) c).symm) $$ [HB HJ]
  · isplitl [HJ] <;> iassumption
  icases H with ⟨Ho, Hu⟩
  iframe

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Each device's result array holds `outAt`, its arguments are as launched. -/
def Ends (r : PUnit × MemSt nD τ sig (Elt F)) : Prop :=
  ∀ c : Dev nD, (r.2.mem ((c : Thread nD τ).loc main_v1) : Vec F S512x512 .f32) = outAt m ρ c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

/-- The result array after the run. -/
theorem out_final (c : Dev nD) : ((dats m ρ 0 c).arrAt (3 : Fin 4) cfg0.N : Vec F S512x512 .f32) = outAt m ρ c :=
  (dats m ρ 0 c).arrAt_eq_of_after_last (3 : Fin 4) t0_0 (by decide +kernel) _ fun _ => rfl

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose)
    (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := routerPts m)
    (hX := start_intro m ρ) (hin := enter_phi m ρ) (hout := leave_phi m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold routerPts
      iintro ⟨Hu, HZ, HSI⟩
      icombine HSI HZ gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun s h hs => ⟨fun c => ⟨((h c).1 (3 : Fin 4)).trans (out_final m ρ c), ((h c).1 (0 : Fin 4)).trans ((dats m ρ 0 c).arrAt_in (0 : Fin 4) rfl _),
        (h c).2.2.2, ((h c).1 (1 : Fin 4)).trans ((dats m ρ 0 c).arrAt_in (1 : Fin 4) rfl _), ((h c).1 (2 : Fin 4)).trans ((dats m ρ 0 c).arrAt_in (2 : Fin 4) rfl _)⟩,
      sem_eq_zero hs fun c => (h c).2.2.1⟩)

end Cert.KernelIdeal.MoE

end
-- ==== Proof.Words.lean ====
/-
# `Words`: flags, counts and comparisons of words

Both programs count tokens in 32-bit words and compare the counts with the capacity.  These lemmas read such words as
whole numbers, and read an operation's value at an index.
-/
module

public import Idealize.ShloMosaic.PureOps.Ideal.Laws
public import Idealize.ShloMosaic.PureOps.Reduce
public import Idealize.ShloMosaic.Lib.ValueIdx
public import Idealize.ShloMosaic.Lib.ValueLayout
public import Mathlib.Data.BitVec

@[expose] public section

noncomputable section

namespace Cert.Words

open Idealize.ShloMosaic
open Idealize.ShloMosaic.ValueIdx

/-! ## Reading an operation at an index -/

/-- A column spread over a row's places. -/
theorem broadcastTo_col {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A flag read as a number: one or zero. -/
theorem toInt_flag (b : Bool) : ((((BitVec.ofBool b).setWidth 32).toInt : ℝ) : EReal) = if b then 1 else 0 := by
  cases b <;> simp

theorem toInt_cmpi_eq (a b : BitVec 32) :
    ((((IntOp.cmpi .eq a b).setWidth 32).toInt : ℝ) : EReal) = if a = b then 1 else 0 := by
  show ((((BitVec.ofBool (a == b)).setWidth 32).toInt : ℝ) : EReal) = _
  rw [toInt_flag]
  simp only [beq_iff_eq]

/-! ## Words that count -/

/-- A sum of words along one axis. -/
theorem sumI_single {s t : Shape} {a : Fin s.rank} (src : IVec s 32) (h : s.Reduces [a] t) (hacc : (0#32 : BitVec 32) = IKind.add.neutral)
    (j : t.Idx) : multiReductionI .add [a] t src 0#32 h hacc j = ∑ k : Fin (s.size a), src (h.lift j k) := by
  rw [multiReductionI_eq_reduceFold]
  show reduceFold h (· + ·) (0#32 : BitVec 32) src j = _
  rw [reduceFold_add_eq_sum, h.sum_filter_drop_single]
  exact zero_add _

/-- A selection by a flag. -/
theorem select_flag {α : Type} (p : Prop) [Decidable p] (a b : α) :
    Scalar.select (BitVec.ofBool (decide p)) a b = if p then a else b := by
  by_cases h : p <;> simp [h, Scalar.select]

/-- A product of two flags. -/
theorem flag_mul (p q : Prop) [Decidable p] [Decidable q] :
    (if p then (1 : EReal) else 0) * (if q then 1 else 0) = if p ∧ q then 1 else 0 := by
  by_cases hp : p <;> by_cases hq : q <;> simp [hp, hq]

/-- The word of a sum is the sum of the words. -/
theorem ofNat_sum {ι : Type} (S : Finset ι) (g : ι → ℕ) : BitVec.ofNat 32 (∑ k ∈ S, g k) = ∑ k ∈ S, BitVec.ofNat 32 (g k) :=
  Nat.cast_sum S g

/-- A sum of flags is the number of those set. -/
theorem sum_flags {n : ℕ} (p : Fin n → Prop) [DecidablePred p] :
    (∑ k, (BitVec.ofBool (decide (p k))).setWidth 32) = BitVec.ofNat 32 (∑ k, if p k then 1 else 0) := by
  rw [ofNat_sum]
  refine Finset.sum_congr rfl fun k _ => ?_
  by_cases h : p k <;> simp [h]

/-- The same with the flags read as extended reals. -/
theorem sum_flags_ereal {n : ℕ} (p : Fin n → Prop) [DecidablePred p] :
    (∑ k, if p k then (1 : EReal) else 0) = (((∑ k, if p k then 1 else 0 : ℕ) : ℝ) : EReal) := by
  rw [EReal.coe_natCast, Nat.cast_sum]
  refine Finset.sum_congr rfl fun k _ => ?_
  by_cases h : p k <;> simp [h]

/-- The experts' numbers are different words. -/
theorem ofNat_inj {a b : Fin 32} (h : BitVec.ofNat 32 a.val = BitVec.ofNat 32 b.val) : a = b := by
  have h' := congrArg BitVec.toNat h
  rw [BitVec.toNat_ofNat, BitVec.toNat_ofNat] at h'
  exact Fin.ext (by omega)

/-- Below 2^31 the signed comparison of words is that of the numbers. -/
theorem slt_ofNat {a b : ℕ} (ha : a < 2 ^ 31) (hb : b < 2 ^ 31) :
    (BitVec.ofNat 32 a).slt (BitVec.ofNat 32 b) = decide (a < b) := by
  rw [BitVec.slt_eq_decide, BitVec.toInt_ofNat', BitVec.toInt_ofNat']
  refine decide_eq_decide.mpr ?_
  rw [Int.bmod_eq_of_le (by omega) (by omega), Int.bmod_eq_of_le (by omega) (by omega)]
  omega

/-- A number converted to a word. -/
theorem fptosi_nat {n : ℕ} (hn : n < 2 ^ 31) : Ideal.fptosi 32 (((n : ℝ)) : EReal) = BitVec.ofNat 32 n := by
  unfold Ideal.fptosi
  rw [Ideal.toIntClamped_coe, if_pos (Nat.cast_nonneg n), Int.floor_natCast,
    min_eq_right (by omega), max_eq_right (by omega), BitVec.ofInt_natCast]

end Cert.Words

end
-- ==== Proof.KernelIdealAcc.lean ====
/-
# `KernelIdealAcc`: the sum over the experts

Before the mask, a device's result is a sum of 32 terms, one per expert: the token's gate for the expert (one if the
token's route index names it, else zero) times the token's product with the expert's weights.  The program adds them in
the order in which the experts arrive, which differs from device to device; `acc_apply` states the sum over all experts.
-/
module

public import proofs.«01_k».proof.Proof.KernelIdealParts
public import proofs.«01_k».proof.Proof.Words
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

namespace Cert.KernelIdeal.MoE

open Cert.KernelIdeal Cert.KernelIdeal.Gen
open Idealize.ShloMosaic
open Idealize.ShloMosaic.ValueIdx
open Cert.Words

section
variable {F : FTy → Type} [FloatOps F]
variable (m : (ℓ : Loc nD τ sig) → Buf (Elt F) ℓ) (ρ : Dev nD → PrngReg)

/-- One expert's term added to `acc`: `k` is the expert's number, `w` its weights. -/
def expertStep (v33 : IVec S512x1 32) (x : FVec F S512x256 .bf16) (acc : FVec F S512x512 .f32) (k : BitVec 32)
    (w : Vec F S1x256x512 .bf16) : FVec F S512x512 .f32 :=
  addf acc (mulf (broadcastTo S512x512 (sitofp .f32 (extui 32 (cmpi .eq v33 (broadcast S512x1 k)) natLt_1_32) : FVec F S512x1 .f32) broadcasts_S512x1_S512x512)
    (matmul dot_S512x256_S256x512_S512x512_1_0_0_1_n_n none x (shapeCast S256x512 w shapeCasts_S1x256x512_S256x512 : FVec F S256x512 .bf16)
      (constant S512x512 .f32 0x00000000#32)))

/-- Where a term's weights come from: the device itself, or its peer. -/
def srcDev (c : Dev nD) : Option (Fin 7) → Dev nD
  | none => c
  | some r => peer c r
/-- The same as the program computes it, as a word. -/
def srcWord (c : Dev nD) : Option (Fin 7) → BitVec 32
  | none => val2 c
  | some r => Scalar.remsi (Scalar.addi (val2 c) (BitVec.ofNat 32 (r.val + 1))) 8#32
/-- The expert's number. -/
def keyWord (c : Dev nD) (o : Option (Fin 7)) (j : Fin 4) : BitVec 32 :=
  Scalar.addi (Scalar.muli (srcWord c o) 4#32) (BitVec.ofNat 32 j.val)

theorem keyWord_eq (c : Dev nD) (o : Option (Fin 7)) (j : Fin 4) :
    keyWord c o j = BitVec.ofNat 32 ((srcDev c o).val * 4 + j.val) := by
  revert c o j; decide

theorem val2_eq (c : Dev nD) : val2 c = BitVec.ofNat 32 c.val := by revert c; decide

/-- The order of the terms: the device's own four experts, then each peer's. -/
def termOrder : List (Option (Fin 7) × Fin 4) :=
  (none :: ks.map some).flatMap fun o => [(o, 0), (o, 1), (o, 2), (o, 3)]

theorem val711_eq (c : Dev nD) :
    val711 m ρ c = termOrder.foldl (fun acc p => expertStep (val33 m ρ c) (val171 m ρ c) acc (keyWord c p.1 p.2)
        (wrow (wstg m ρ (srcDev c p.1)) p.2)) (broadcast S512x512 (Scalar.ofBits .f32 0x00000000#32)) := rfl

end

section
variable (m : (ℓ : Loc nD τ sig) → Buf (Elt Ideal) ℓ) (ρ : Dev nD → PrngReg)

/-- Device `c`'s tokens and experts, as numbers. -/
def tok (c : Dev nD) (t : Fin 512) (d : Fin 256) : EReal := xstg m ρ c (ix2 t d)
def wgt (s : Dev nD) (j : Fin 4) (d : Fin 256) (f : Fin 512) : EReal := wstg m ρ s (ix3 j d f)
def route (c : Dev nD) (t : Fin 512) : BitVec 32 := istg m ρ c (ix2 t (0 : Fin 1))

/-- One expert's term read at a token and a feature. -/
theorem expertStep_apply (v33 : IVec S512x1 32) (x : FVec Ideal S512x256 .bf16) (acc : FVec Ideal S512x512 .f32)
    (k : BitVec 32) (w : Vec Ideal S1x256x512 .bf16) (t f : Fin 512) :
    (expertStep (F := Ideal) v33 x acc k w (ix2 t f) : EReal)
      = (acc (ix2 t f) : EReal) + (if v33 (ix2 t (0 : Fin 1)) = k then (1 : EReal) else 0)
          * ∑ d : Fin 256, (x (ix2 t d) : EReal) * (w (ix3 (0 : Fin 1) d f) : EReal) := by
  show (acc (ix2 t f) : EReal) + (broadcastTo S512x512 _ broadcasts_S512x1_S512x512 (ix2 t f) : EReal) * (FloatOps.matmul (F := Ideal) (φ₁ := .bf16) (φ₂ := .bf16) (DotDims.plain 512 256 512) none x (shapeCast S256x512 w shapeCasts_S1x256x512_S256x512) (constant S512x512 .f32 0x00000000#32) (ix2 t f) : EReal) = _
  rw [Ideal.matmul_plain_apply]
  refine congrArg ((acc (ix2 t f) : EReal) + ·) (congrArg₂ (· * ·) ?_ ?_)
  · refine (broadcastTo_col _ _ t f).trans ?_
    exact toInt_cmpi_eq _ _
  · refine (congrArg₂ (· + ·) (Ideal.ofBits_zero_f32) (Finset.sum_congr rfl fun d _ => congrArg (_ * ·) ?_)).trans (zero_add _)
    exact shapeCast_1ab_ab_apply _ _ d f

/-- The terms in a list's order. -/
theorem foldl_apply (c : Dev nD) (l : List (Option (Fin 7) × Fin 4)) (init : FVec Ideal S512x512 .f32) (t f : Fin 512) :
    ((l.foldl (fun acc p => expertStep (val33 m ρ c) (val171 m ρ c) acc (keyWord c p.1 p.2)
        (wrow (wstg m ρ (srcDev c p.1)) p.2)) init) (ix2 t f) : EReal)
      = (init (ix2 t f) : EReal) + (l.map fun p => (if route m ρ c t = BitVec.ofNat 32 ((srcDev c p.1).val * 4 + p.2.val) then (1 : EReal) else 0)
          * ∑ d, tok m ρ c t d * wgt m ρ (srcDev c p.1) p.2 d f).sum := by
  induction l generalizing init with
  | nil => exact (add_zero _).symm
  | cons p l ih =>
    rw [List.foldl_cons, ih, expertStep_apply, List.map_cons, List.sum_cons, add_assoc, keyWord_eq]
    rw [show val33 m ρ c = istg m ρ c from shapeCast_self (s := S512x1) (istg m ρ c) _, show val171 m ρ c = xstg m ρ c from shapeCast_self (s := S512x256) (xstg m ρ c) _]
    rfl

/-- The order of the terms covers every device's four experts once. -/
theorem sum_terms (c : Dev nD) (H : Dev nD → Fin 4 → EReal) :
    (termOrder.map fun p => H (srcDev c p.1) p.2).sum = ∑ s, ∑ j, H s j := by
  rw [univ_peers c, List.sum_toFinset _ (nodup_peers c)]
  simp only [termOrder, srcDev, ks, List.map_cons, List.map_nil, List.flatMap_cons, List.flatMap_nil, List.cons_append,
    List.nil_append, List.sum_cons, List.sum_nil, Fin.sum_univ_four, add_assoc, add_zero]

/-- Eight blocks of `n` one after another: the device's number and the place within its block give the place. -/
theorem sum_blocks {M : Type} [AddCommMonoid M] {n N : ℕ} (hN : N = 8 * n) (T : Fin N → M) :
    (∑ s : Dev nD, ∑ j : Fin n, T ⟨s.val * n + j.val, by
      have h : s.val < 8 := s.isLt
      have hj := j.isLt
      calc s.val * n + j.val < s.val * n + n := Nat.add_lt_add_left hj _
        _ = (s.val + 1) * n := (Nat.succ_mul _ _).symm
        _ ≤ 8 * n := Nat.mul_le_mul_right n h
        _ = N := hN.symm⟩) = ∑ e, T e := by
  subst hN
  rw [← Fintype.sum_prod_type' (f := fun (s : Dev nD) (j : Fin n) => T ⟨s.val * n + j.val, _⟩)]
  refine Fintype.sum_equiv (finProdFinEquiv : Fin 8 × Fin n ≃ Fin (8 * n)) _ _ fun p => congrArg T (Fin.ext ?_)
  show p.1.val * n + p.2.val = p.2.val + n * p.1.val
  rw [Nat.mul_comm, Nat.add_comm]

/-- The sum before the mask, at a token and a feature. -/
theorem acc_apply (c : Dev nD) (t f : Fin 512) :
    (val711 m ρ c (ix2 t f) : EReal) = ∑ s : Dev nD, ∑ j : Fin 4,
      (if route m ρ c t = BitVec.ofNat 32 (s.val * 4 + j.val) then (1 : EReal) else 0) * ∑ d, tok m ρ c t d * wgt m ρ s j d f := by
  rw [val711_eq, foldl_apply,
    sum_terms c fun s j => (if route m ρ c t = BitVec.ofNat 32 (s.val * 4 + j.val) then (1 : EReal) else 0) * ∑ d, tok m ρ c t d * wgt m ρ s j d f]
  exact (congrArg (· + _) Ideal.ofBits_zero_f32).trans (zero_add _)

end

end Cert.KernelIdeal.MoE

end
-- ==== Proof.KernelIdealKeep.lean ====
/-
# `KernelIdealKeep`: the mask of the tokens within capacity

A token routed to expert `e` is kept if fewer than 102 earlier tokens go to `e`.  The earlier tokens are those of the
devices before `c` (the counts that were exchanged) and those before the token on `c` itself (a product with a strictly
lower triangular matrix, converted back to a whole number).  `keep_apply` reads the mask off as that comparison.
-/
module

public import proofs.«01_k».proof.Proof.KernelIdealAcc

@[expose] public section

noncomputable section

namespace Cert.KernelIdeal.MoE

open Cert.KernelIdeal Cert.KernelIdeal.Gen
open Idealize.ShloMosaic
open Idealize.ShloMosaic.ValueIdx
open Cert.Words

section
variable (m : (ℓ : Loc nD τ sig) → Buf (Elt Ideal) ℓ) (ρ : Dev nD → PrngReg)

/-- Whether token `t` of device `c` goes to expert `e`. -/
abbrev goes (c : Dev nD) (t : Fin 512) (e : Fin 32) : Prop := route m ρ c t = BitVec.ofNat 32 e.val

theorem val36_apply (c : Dev nD) (t : Fin 512) (e : Fin 32) :
    val36 m ρ c (ix2 t e) = BitVec.ofBool (decide (goes m ρ c t e)) := by
  have h1 : broadcastTo S512x32 (k0_pay1 (F := Ideal) (istg m ρ c)) broadcasts_S512x1_S512x32 (ix2 t e) = route m ρ c t :=
    (broadcastTo_col _ _ t e).trans (congrFun (shapeCast_self (s := S512x1) (istg m ρ c) _) _)
  have h2 : iota .tc S512x32 32 [1] iota_S512x32_d1_w32 (ix2 t e) = BitVec.ofNat 32 e.val := iota_single_apply ..
  show BitVec.ofBool (broadcastTo S512x32 (k0_pay1 (F := Ideal) (istg m ρ c)) broadcasts_S512x1_S512x32 (ix2 t e) == iota .tc S512x32 32 [1] iota_S512x32_d1_w32 (ix2 t e)) = _
  rw [h1, h2]
  rfl

/-- How many of device `s`'s tokens go to expert `e`. -/
def cnt (s : Dev nD) (e : Fin 32) : ℕ := ∑ t : Fin 512, if goes m ρ s t e then 1 else 0

theorem pay3_apply (s : Dev nD) (e : Fin 32) : k0_pay3 (F := Ideal) (istg m ρ s) (ix2 (0 : Fin 1) e) = BitVec.ofNat 32 (cnt m ρ s e) := by
  unfold k0_pay3
  refine (congrFun (shapeCast_self (s := S1x32) _ _) _).trans ?_
  refine (shapeCast_a_1a_apply _ _ (0 : Fin 1) e).trans ?_
  refine (sumI_single _ _ _ _).trans ?_
  refine (Finset.sum_congr rfl fun (k : Fin 512) _ => ?_).trans (sum_flags fun t : Fin 512 => goes m ρ s t e)
  have hk : reduces_S512x32_S32.lift (ix1 e) k = ix2 k e := by
    funext a; match a with
    | ⟨0, _⟩ => rfl
    | ⟨1, _⟩ => rfl
  rw [hk]
  exact congrArg (BitVec.setWidth 32) (val36_apply m ρ s k e)

/-- How many tokens of the devices before `c` go to expert `e`. -/
def prior (c : Dev nD) (e : Fin 32) : ℕ := ∑ s : Dev nD, if s.val < c.val then cnt m ρ s e else 0

/-- How many of device `c`'s tokens before `t` go to expert `e`. -/
def rank (c : Dev nD) (t : Fin 512) (e : Fin 32) : ℕ := ∑ k : Fin 512, if k.val < t.val ∧ goes m ρ c k e then 1 else 0

theorem prior_apply (c : Dev nD) (e : Fin 32) :
    multiReductionI .add [0] S32 (select (cmpi .slt (iota .tc S8x32 32 [0] iota_S8x32_d0_w32) (broadcast S8x32 (val2 c))) (call m ρ)
      (broadcast S8x32 0#32)) 0#32 reduces_S8x32_S32 rfl (ix1 e) = BitVec.ofNat 32 (prior m ρ c e) := by
  refine (sumI_single _ _ _ _).trans ?_
  unfold prior
  rw [ofNat_sum]
  refine Finset.sum_congr rfl fun (s : Dev nD) _ => ?_
  have hk : reduces_S8x32_S32.lift (ix1 e) s = ix2 s e := by
    funext a; match a with
    | ⟨0, _⟩ => rfl
    | ⟨1, _⟩ => rfl
  rw [hk]
  show Scalar.select (BitVec.ofBool ((iota .tc S8x32 32 [0] iota_S8x32_d0_w32 (ix2 s e)).slt (val2 c))) (call m ρ (ix2 s e)) 0#32 = _
  have hs : s.val < 8 := s.isLt
  have hc : c.val < 8 := c.isLt
  rw [iota_single_apply, val2_eq]
  show Scalar.select (BitVec.ofBool ((BitVec.ofNat 32 s.val).slt (BitVec.ofNat 32 c.val))) (k0_pay3 (F := Ideal) (istg m ρ s) (ix2 (0 : Fin 1) e)) 0#32 = _
  rw [slt_ofNat (by omega) (by omega), pay3_apply]
  rw [select_flag]
  by_cases h : s.val < c.val
  · rw [if_pos h, if_pos h]
  · rw [if_neg h, if_neg h]

/-- A sum over the experts of what only the token's own expert contributes. -/
theorem sum_own {M : Type} [AddCommMonoid M] {c : Dev nD} {t : Fin 512} {e : Fin 32} (h : goes m ρ c t e) (g : Fin 32 → M) :
    (∑ e' : Fin 32, if goes m ρ c t e' then g e' else 0) = g e := by
  rw [Finset.sum_eq_single e (fun e' _ hne => if_neg fun h' => hne (ofNat_inj (h'.symm.trans h))) (fun hne => absurd (Finset.mem_univ e) hne),
    if_pos h]

/-- The strictly lower triangular matrix of ones. -/
def tri : FVec Ideal S512x512 .bf16 :=
  truncf .bf16 (sitofp .f32 (extui 32 (cmpi .slt (iota .tc S512x512 32 [1] iota_S512x512_d1_w32) (iota .tc S512x512 32 [0] iota_S512x512_d0_w32)) natLt_1_32) : FVec Ideal S512x512 .f32) bitsLt_bf16_f32
/-- Device `c`'s tokens' experts as ones and zeros. -/
def hot (c : Dev nD) : FVec Ideal S512x32 .bf16 :=
  truncf .bf16 (sitofp .f32 (extui 32 (val36 m ρ c) natLt_1_32) : FVec Ideal S512x32 .f32) bitsLt_bf16_f32

theorem tri_apply (t k : Fin 512) : (tri (ix2 t k) : EReal) = if k.val < t.val then 1 else 0 := by
  show ((((BitVec.ofBool ((iota .tc S512x512 32 [1] iota_S512x512_d1_w32 (ix2 t k)).slt (iota .tc S512x512 32 [0] iota_S512x512_d0_w32 (ix2 t k)))).setWidth 32).toInt : ℝ) : EReal) = _
  rw [iota_single_apply, iota_single_apply]
  show ((((BitVec.ofBool ((BitVec.ofNat 32 k.val).slt (BitVec.ofNat 32 t.val))).setWidth 32).toInt : ℝ) : EReal) = _
  have := k.isLt
  have := t.isLt
  rw [slt_ofNat (by omega) (by omega), toInt_flag]
  simp only [decide_eq_true_eq]

theorem hot_apply (c : Dev nD) (k : Fin 512) (e : Fin 32) : (hot m ρ c (ix2 k e) : EReal) = if goes m ρ c k e then 1 else 0 := by
  show ((((val36 m ρ c (ix2 k e)).setWidth 32).toInt : ℝ) : EReal) = _
  rw [val36_apply, toInt_flag]
  simp only [decide_eq_true_eq]

/-- Their product, at a token and an expert. -/
theorem tri_hot_apply (c : Dev nD) (t : Fin 512) (e : Fin 32) :
    (FloatOps.matmul (F := Ideal) (φ₁ := .bf16) (φ₂ := .bf16) (DotDims.plain 512 512 32) none tri (hot m ρ c)
      (constant S512x32 .f32 0x00000000#32) (ix2 t e) : EReal) = (((rank m ρ c t e : ℕ) : ℝ) : EReal) := by
  rw [Ideal.matmul_plain_apply]
  refine (congrArg (· + _) Ideal.ofBits_zero_f32).trans ((zero_add _).trans ?_)
  refine (Finset.sum_congr rfl fun k _ => ?_).trans (sum_flags_ereal fun k : Fin 512 => k.val < t.val ∧ goes m ρ c k e)
  refine (congrArg₂ (· * ·) (tri_apply t k) (hot_apply m ρ c k e)).trans (flag_mul _ _)

theorem val232_eq (c : Dev nD) : val232 m ρ c
    = select (val36 m ρ c) (FloatOps.matmul (F := Ideal) (φ₁ := .bf16) (φ₂ := .bf16) (DotDims.plain 512 512 32) none tri (hot m ρ c)
      (constant S512x32 .f32 0x00000000#32)) (broadcast S512x32 (Scalar.ofBits .f32 0x00000000#32)) := rfl

/-- The product at the token's own expert, zero at the others. -/
theorem val232_apply (c : Dev nD) (t : Fin 512) (e : Fin 32) :
    (val232 m ρ c (ix2 t e) : EReal) = if goes m ρ c t e then (((rank m ρ c t e : ℕ) : ℝ) : EReal) else 0 := by
  rw [val232_eq, select_apply, tri_hot_apply, val36_apply]
  refine (congrArg (fun z : EReal => Scalar.select (BitVec.ofBool (decide (goes m ρ c t e))) (((rank m ρ c t e : ℕ) : ℝ) : EReal) z) Ideal.ofBits_zero_f32).trans ?_
  exact select_flag _ _ _

/-- The token's rank on its own device. -/
theorem val235_apply {c : Dev nD} {t : Fin 512} {e : Fin 32} (h : goes m ρ c t e) :
    val235 m ρ c (ix2 t (0 : Fin 1)) = BitVec.ofNat 32 (rank m ρ c t e) := by
  have hr : rank m ρ c t e < 2 ^ 31 := by
    refine lt_of_le_of_lt (Finset.sum_le_sum (g := fun _ => 1) fun k _ => ?_) ?_
    · split <;> omega
    · simp
  have h1 : (shapeCast S512x1 (multiReduction .add [1] S512 (val232 m ρ c) 0x00000000#32 reduces_S512x32_S512 (.inl rfl) rfl : FVec Ideal S512 .f32)
      shapeCasts_S512_S512x1 (ix2 t (0 : Fin 1)) : EReal) = (((rank m ρ c t e : ℕ) : ℝ) : EReal) := by
    refine (shapeCast_a_a1_apply _ _ t (0 : Fin 1)).trans ?_
    refine (Ideal.multiReduction_add_single _ _ _ _ _ _).trans ?_
    refine (Finset.sum_congr rfl fun (e' : Fin 32) _ => ?_).trans (sum_own m ρ h fun e' : Fin 32 => (((rank m ρ c t e' : ℕ) : ℝ) : EReal))
    have hk : reduces_S512x32_S512.lift (ix1 t) e' = ix2 t e' := by
      funext a; match a with
      | ⟨0, _⟩ => rfl
      | ⟨1, _⟩ => rfl
    rw [hk]
    exact val232_apply m ρ c t e'
  exact (congrArg (Ideal.fptosi 32) h1).trans (fptosi_nat hr)

/-- The earlier devices' count, at a token. -/
theorem priorAt_apply {c : Dev nD} {t : Fin 512} {e : Fin 32} (h : goes m ρ c t e) (P : IVec S1x32 32)
    (hP : ∀ e' : Fin 32, P (ix2 (0 : Fin 1) e') = BitVec.ofNat 32 (prior m ρ c e')) :
    shapeCast S512x1 (multiReductionI .add [1] S512 (select (val36 m ρ c) (broadcastTo S512x32 P broadcasts_S1x32_S512x32) (broadcast S512x32 0#32))
      0#32 reduces_S512x32_S512 rfl) shapeCasts_S512_S512x1 (ix2 t (0 : Fin 1)) = BitVec.ofNat 32 (prior m ρ c e) := by
  refine (shapeCast_a_a1_apply _ _ t (0 : Fin 1)).trans ?_
  refine (sumI_single _ _ _ _).trans ?_
  refine (Finset.sum_congr rfl fun (e' : Fin 32) _ => ?_).trans (sum_own m ρ h fun e' : Fin 32 => BitVec.ofNat 32 (prior m ρ c e'))
  have hk : reduces_S512x32_S512.lift (ix1 t) e' = ix2 t e' := by
    funext a; match a with
    | ⟨0, _⟩ => rfl
    | ⟨1, _⟩ => rfl
  rw [hk]
  show Scalar.select (val36 m ρ c (ix2 t e')) (broadcastTo S512x32 P broadcasts_S1x32_S512x32 (ix2 t e')) 0#32 = _
  rw [val36_apply]
  refine (congrArg (fun z => Scalar.select _ z 0#32) ((broadcastTo_1b_ab_apply P _ t e').trans (hP e'))).trans ?_
  exact select_flag _ _ _

theorem prior_le (c : Dev nD) (e : Fin 32) : prior m ρ c e ≤ 4096 := by
  have h1 : ∀ s : Dev nD, cnt m ρ s e ≤ 512 := fun s =>
    (Finset.sum_le_sum (g := fun _ => 1) fun k _ => by split <;> omega).trans (by simp)
  refine (Finset.sum_le_sum (g := fun _ => 512) fun s _ => ?_).trans (by decide)
  split
  · exact h1 s
  · omega

theorem rank_le (c : Dev nD) (t : Fin 512) (e : Fin 32) : rank m ρ c t e ≤ 512 :=
  (Finset.sum_le_sum (g := fun _ => 1) fun k _ => by split <;> omega).trans (by simp)

/-- Whatever a token's route index, its results are one factor times the sums. -/
theorem out_mask (c : Dev nD) (t f : Fin 512) : ∃ k : EReal, (outAt m ρ c (ix2 t f) : EReal) = k * (val711 m ρ c (ix2 t f) : EReal) :=
  ⟨_, rfl⟩

/-- The result at a token that goes to expert `e`: the sum, masked by the comparison with the capacity. -/
theorem out_apply {c : Dev nD} {t : Fin 512} {e : Fin 32} (h : goes m ρ c t e) (f : Fin 512) :
    (outAt m ρ c (ix2 t f) : EReal) = (if prior m ρ c e + rank m ρ c t e < 102 then (1 : EReal) else 0) * (val711 m ρ c (ix2 t f) : EReal) := by
  unfold outAt k0_pay33
  refine congrArg (· * (val711 m ρ c (ix2 t f) : EReal)) ((broadcastTo_col _ _ t f).trans ?_)
  have hp := priorAt_apply m ρ h
    (shapeCast S1x32 (shapeCast S1x32 (multiReductionI .add [0] S32 (select (cmpi .slt (iota .tc S8x32 32 [0] iota_S8x32_d0_w32) (broadcast S8x32 (val2 c))) (call m ρ)
      (broadcast S8x32 0#32)) 0#32 reduces_S8x32_S32 rfl) shapeCasts_S32_S1x32) shapeCasts_S1x32_S1x32)
    fun e' => (congrFun (shapeCast_self (s := S1x32) _ _) _).trans ((shapeCast_a_1a_apply _ _ (0 : Fin 1) e').trans (prior_apply m ρ c e'))
  have hs := congrArg₂ (fun a b : BitVec 32 => ((((BitVec.ofBool ((a + b).slt 102#32)).setWidth 32).toInt : ℝ) : EReal)) hp (val235_apply m ρ h)
  refine Eq.trans hs ?_
  have h1 := prior_le m ρ c e
  have h2 := rank_le m ρ c t e
  show ((((BitVec.ofBool ((BitVec.ofNat 32 (prior m ρ c e) + BitVec.ofNat 32 (rank m ρ c t e)).slt 102#32)).setWidth 32).toInt : ℝ) : EReal) = _
  rw [← BitVec.ofNat_add, slt_ofNat (by omega) (by omega), toInt_flag]
  simp only [decide_eq_true_eq]

end

end Cert.KernelIdeal.MoE

end
-- ==== Proof.ReferenceIdealValue.lean ====
/-
# `ReferenceIdealValue`: what the reference computes

The reference's result at a token and a feature is the sum over the experts of the token's product with the expert's
weights, each kept only if the token goes to the expert and fewer than 102 earlier tokens do.
-/
module

public import proofs.«01_k».proof.Proof.Gen.ReferenceIdeal
public import proofs.«01_k».proof.Proof.Words
public import Idealize.ShloMosaic.Lib.IdealHost
public import Idealize.ShloMosaic.Lib.WordSum
public import Idealize.ShloMosaic.Lib.Routing.OpsOne

@[expose] public section

noncomputable section

namespace Cert.ReferenceIdeal.MoE

open Cert.ReferenceIdeal Cert.ReferenceIdeal.Gen
open Idealize.ShloMosaic
open Idealize.ShloMosaic.ValueIdx
open Cert.Words

/-- Which expert each token goes to, as flags. -/
def hot (I : IVec S4096x1 32) : IVec S4096x32 1 :=
  cmpi .eq (broadcastInDim S4096x32 ![0, 1] bcast_S4096x1_S4096x32_0_1 I)
    (broadcastInDim S4096x32 ![0, 1] bcast_S1x32_S4096x32_0_1 (broadcastInDim S1x32 ![1] bcast_S32_S1x32_1 (iotaInDim S32 32 0)))

/-- How many earlier tokens go to each expert: the running count less the token's own flag. -/
def before (I : IVec S4096x1 32) : IVec S4096x32 32 :=
  subi (Host.reduceWindow IntOp.addi ![4096, 1] ![1, 1] ![4095, 0] ![0, 0] (extui 32 (hot I) natLt_1_32)
      (broadcastInDim S_ ![] bcast_S_S_ (constantI S_ 32 0#32)) reduceWindows_S4096x32_S4096x32_w4096s1p4095_0_w1s1p0_0 h_S_)
    (extui 32 (hot I) natLt_1_32)

/-- Every token's product with every expert's weights. -/
def prods (X : FVec Ideal S4096x256 .bf16) (W : FVec Ideal S32x256x512 .bf16) : FVec Ideal S4096x32x512 .f32 :=
  Host.dotGeneral dot_S4096x256_S32x256x512_S4096x32x512_1_1_0_02_n_n none (extf .f32 X bitsLt_bf16_f32) (extf .f32 W bitsLt_bf16_f32)

/-- The reference's result. -/
def out (X : FVec Ideal S4096x256 .bf16) (I : IVec S4096x1 32) (W : FVec Ideal S32x256x512 .bf16) : FVec Ideal S4096x512 .f32 :=
  Host.reduceAdd (select (broadcastInDim S4096x32x512 ![0, 1, 2] bcast_S4096x32x1_S4096x32x512_0_1_2
      (broadcastInDim S4096x32x1 ![0, 1] bcast_S4096x32_S4096x32x1_0_1
        (andi (hot I) (cmpi .slt (before I) (broadcastInDim S4096x32 ![] bcast_S_S4096x32 (constantI S_ 32 102#32))))))
      (prods X W) (broadcastInDim S4096x32x512 ![] bcast_S_S4096x32x512 (id (constant S_ .f32 0x00000000#32))))
    (constant S_ .f32 0x00000000#32) reducesTo_S4096x32x512_S4096x512_d1 h_S_

/-- Whether token `n` goes to expert `e`. -/
abbrev goes (I : IVec S4096x1 32) (n : Fin 4096) (e : Fin 32) : Prop := I (ix2 n (0 : Fin 1)) = BitVec.ofNat 32 e.val

/-- How many tokens before `n` go to expert `e`. -/
def earlier (I : IVec S4096x1 32) (n : Fin 4096) (e : Fin 32) : ℕ := ∑ i : Fin 4096, if i < n ∧ goes I i e then 1 else 0

theorem earlier_le (I : IVec S4096x1 32) (n : Fin 4096) (e : Fin 32) : earlier I n e ≤ 4096 :=
  (Finset.sum_le_sum (g := fun _ => 1) fun k _ => by split <;> omega).trans (by simp)

theorem hot_apply (I : IVec S4096x1 32) (n : Fin 4096) (e : Fin 32) : hot I (ix2 n e) = BitVec.ofBool (decide (goes I n e)) := by
  have h1 : broadcastInDim S4096x32 ![0, 1] bcast_S4096x1_S4096x32_0_1 I (ix2 n e) = I (ix2 n (0 : Fin 1)) :=
    broadcastInDim_apply _ _ _ _ _ fun a => by
      match a with
      | ⟨0, _⟩ => rfl
      | ⟨1, _⟩ => rfl
  have h2 : broadcastInDim S4096x32 ![0, 1] bcast_S1x32_S4096x32_0_1 (broadcastInDim S1x32 ![1] bcast_S32_S1x32_1 (iotaInDim S32 32 0)) (ix2 n e)
      = BitVec.ofNat 32 e.val := by
    refine (broadcastInDim_apply _ _ _ _ (ix2 (0 : Fin 1) e) fun a => ?_).trans ?_
    · match a with
      | ⟨0, _⟩ => rfl
      | ⟨1, _⟩ => rfl
    refine (broadcastInDim_apply _ _ _ _ (ix1 e) fun a => ?_).trans rfl
    match a with
    | ⟨0, _⟩ => rfl
  exact congrArg₂ (fun a b : BitVec 32 => BitVec.ofBool (a == b)) h1 h2

theorem before_apply (I : IVec S4096x1 32) (n : Fin 4096) (e : Fin 32) : before I (ix2 n e) = BitVec.ofNat 32 (earlier I n e) := by
  have hc := Routing.cumsum_rows_sum (A := 4096) (Am1 := 4095) (N := 32) rfl (extui 32 (hot I) natLt_1_32)
    (broadcastInDim S_ ![] bcast_S_S_ (constantI S_ 32 0#32)) rfl reduceWindows_S4096x32_S4096x32_w4096s1p4095_0_w1s1p0_0 h_S_ n e
  refine (congrArg (· - extui 32 (hot I) natLt_1_32 (ix2 n e)) hc).trans ?_
  refine (Routing.prefix_sub_last (fun i => extui 32 (hot I) natLt_1_32 (ix2 i e)) n).trans ?_
  refine Eq.trans (Finset.sum_congr rfl fun i _ => ?_) (sum_flags fun i : Fin 4096 => i < n ∧ goes I i e)
  show (if i < n then (hot I (ix2 i e)).setWidth 32 else 0) = _
  rw [hot_apply]
  by_cases h : i < n
  · rw [if_pos h]
    exact congrArg (fun b => (BitVec.ofBool b).setWidth 32) (decide_eq_decide.mpr ⟨fun g => ⟨h, g⟩, And.right⟩)
  · rw [if_neg h]
    exact (congrArg (fun b => (BitVec.ofBool b).setWidth 32) (decide_eq_false fun g => h g.1)).symm

/-- The product's contraction index has one coordinate, of 256 places. -/
theorem prods_apply (X : FVec Ideal S4096x256 .bf16) (W : FVec Ideal S32x256x512 .bf16) (n : Fin 4096) (e : Fin 32) (f : Fin 512) :
    (prods X W (ix3 n e f) : EReal) = ∑ d : Fin 256, (X (ix2 n d) : EReal) * (W (ix3 e d f) : EReal) := by
  have hr : (dot_S4096x256_S32x256x512_S4096x32x512_1_1_0_02_n_n).contr.rank = 1 := rfl
  have hs : (dot_S4096x256_S32x256x512_S4096x32x512_1_1_0_02_n_n).contr.size ⟨0, by omega⟩ = 256 := rfl
  refine (Ideal.dotGeneral_apply dot_S4096x256_S32x256x512_S4096x32x512_1_1_0_02_n_n none _ _ _ (ix3 n e f)).trans ?_
  rw [← Equiv.sum_comp (contrEquiv1 _ 256 hr hs).symm]
  refine Finset.sum_congr rfl fun k _ => ?_
  have hk := contrEquiv1_symm_val _ 256 hr hs k
  have el : (dot_S4096x256_S32x256x512_S4096x32x512_1_1_0_02_n_n).lhsIdx (ix3 n e f) ((contrEquiv1 _ 256 hr hs).symm k) = ix2 n k := by
    funext a; apply Fin.ext
    match a with
    | ⟨0, _⟩ => rfl
    | ⟨1, _⟩ => exact hk
  have er : (dot_S4096x256_S32x256x512_S4096x32x512_1_1_0_02_n_n).rhsIdx (ix3 n e f) ((contrEquiv1 _ 256 hr hs).symm k) = ix3 e k f := by
    funext a; apply Fin.ext
    match a with
    | ⟨0, _⟩ => rfl
    | ⟨1, _⟩ => exact hk
    | ⟨2, _⟩ => rfl
  rw [el, er]
  rfl

/-- The reference's result at a token and a feature. -/
theorem out_apply (X : FVec Ideal S4096x256 .bf16) (I : IVec S4096x1 32) (W : FVec Ideal S32x256x512 .bf16) (n : Fin 4096) (f : Fin 512) :
    (out X I W (ix2 n f) : EReal) = ∑ e : Fin 32, if goes I n e ∧ earlier I n e < 102
      then ∑ d : Fin 256, (X (ix2 n d) : EReal) * (W (ix3 e d f) : EReal) else 0 := by
  have hR : S4096x32x512.Reduces [1] S4096x512 := by decide
  unfold out
  rw [hostReduceAdd_apply, Ideal.hostReduceAdd_single _ hR]
  refine (congrArg (· + _) Ideal.ofBits_zero_f32).trans ((zero_add _).trans ?_)
  refine Finset.sum_congr rfl fun (e : Fin 32) _ => ?_
  have hk : hR.lift (ix2 n f) e = ix3 n e f := by
    funext a; match a with
    | ⟨0, _⟩ => rfl
    | ⟨1, _⟩ => rfl
    | ⟨2, _⟩ => rfl
  rw [hk]
  have hm : broadcastInDim S4096x32x512 ![0, 1, 2] bcast_S4096x32x1_S4096x32x512_0_1_2
      (broadcastInDim S4096x32x1 ![0, 1] bcast_S4096x32_S4096x32x1_0_1
        (andi (hot I) (cmpi .slt (before I) (broadcastInDim S4096x32 ![] bcast_S_S4096x32 (constantI S_ 32 102#32))))) (ix3 n e f)
      = BitVec.ofBool (decide (goes I n e ∧ earlier I n e < 102)) := by
    refine (broadcastInDim_apply _ _ _ _ (ix3 n e (0 : Fin 1)) fun a => ?_).trans ?_
    · match a with
      | ⟨0, _⟩ => rfl
      | ⟨1, _⟩ => rfl
      | ⟨2, _⟩ => rfl
    refine (broadcastInDim_apply _ _ _ _ (ix2 n e) fun a => ?_).trans ?_
    · match a with
      | ⟨0, _⟩ => rfl
      | ⟨1, _⟩ => rfl
    have he := earlier_le I n e
    show hot I (ix2 n e) &&& BitVec.ofBool ((before I (ix2 n e)).slt 102#32) = _
    rw [hot_apply, before_apply, slt_ofNat (by omega) (by omega), BitVec.ofBool_and_ofBool, Bool.decide_and]
  have hz : (broadcastInDim S4096x32x512 ![] bcast_S_S4096x32x512 (id (constant (F := Ideal) S_ .f32 0x00000000#32)) (ix3 n e f) : EReal) = 0 :=
    Ideal.ofBits_zero_f32
  refine (congrArg₂ (fun (b : BitVec 1) (z : EReal) => Scalar.select b (prods X W (ix3 n e f) : EReal) z) hm hz).trans ?_
  rw [prods_apply]
  exact select_flag _ _ _

end Cert.ReferenceIdeal.MoE

end
-- ==== Proof.KernelIdealEquation.lean ====
/-
# `KernelIdealEquation`: the kernel's result is the reference's

Given that each device holds its block of the reference's arrays, token `t` of device `c` is token `512 c + t` and expert
`j` of device `s` is expert `4 s + j`.  `earlier_eq` matches the two counts of earlier tokens and `out_eq` the results.
The mask multiplies the whole sum in the kernel and selects each term in the reference; as it is zero or one, the two
agree whatever the terms are, infinities included.
-/
module

public import proofs.«01_k».proof.Proof.KernelIdealKeep
public import proofs.«01_k».proof.Proof.ReferenceIdealValue
public import Idealize.ShloMosaic.Lib.Layout

@[expose] public section

noncomputable section

namespace Cert.KernelIdeal.MoE

open Cert.KernelIdeal Cert.KernelIdeal.Gen
open Idealize.ShloMosaic
open Idealize.ShloMosaic.TcCoe
open Idealize.ShloMosaic.ValueIdx
open Cert.Words

/-- The number of a token among all devices' tokens, and of an expert among all devices' experts. -/
def row (c : Dev nD) (t : Fin 512) : Fin 4096 := ⟨c.val * 512 + t.val, by have h : c.val < 8 := c.isLt; omega⟩
def expert (s : Dev nD) (j : Fin 4) : Fin 32 := ⟨s.val * 4 + j.val, by have h : s.val < 8 := s.isLt; omega⟩

theorem row_lt {s c : Dev nD} {k t : Fin 512} : row s k < row c t ↔ s.val < c.val ∨ (s = c ∧ k.val < t.val) := by
  have hk := k.isLt
  have ht := t.isLt
  show s.val * 512 + k.val < c.val * 512 + t.val ↔ _
  constructor
  · intro h
    by_cases h1 : s.val < c.val
    · exact Or.inl h1
    · exact Or.inr ⟨Fin.ext (by omega), by omega⟩
  · rintro (h | ⟨rfl, h⟩) <;> omega

variable (m : (ℓ : Loc nD τ sig) → Buf (Elt Ideal) ℓ) (ρ : Dev nD → PrngReg)

/-- Each device's arrays are its blocks of the whole arrays. -/
structure Cut (X : FVec Ideal ⟨2, ![4096, 256]⟩ .bf16) (I : IVec ⟨2, ![4096, 1]⟩ 32) (W : FVec Ideal ⟨3, ![32, 256, 512]⟩ .bf16) : Prop where
  tok : ∀ c t d, tok m ρ c t d = X (ix2 (row c t) d)
  route : ∀ c t, route m ρ c t = I (ix2 (row c t) (0 : Fin 1))
  wgt : ∀ s j d f, wgt m ρ s j d f = W (ix3 (expert s j) d f)

theorem cut_of_blocks (X : FVec Ideal ⟨2, ![4096, 256]⟩ .bf16) (I : IVec ⟨2, ![4096, 1]⟩ 32) (W : FVec Ideal ⟨3, ![32, 256, 512]⟩ .bf16)
    (hX : ∀ c : Dev nD, m ((c.tc : Thread nD τ).loc main_arg0) = Layout.block ⟨2, ![512, 256]⟩ ⟨2, ![4096, 256]⟩ 0 8 c X)
    (hI : ∀ c : Dev nD, m ((c.tc : Thread nD τ).loc main_arg2) = Layout.block ⟨2, ![512, 1]⟩ ⟨2, ![4096, 1]⟩ 0 8 c I)
    (hW : ∀ c : Dev nD, m ((c.tc : Thread nD τ).loc main_arg3) = Layout.block ⟨3, ![4, 256, 512]⟩ ⟨3, ![32, 256, 512]⟩ 0 8 c W) :
    Cut m ρ X I W where
  tok c t d := by
    have hi : (win0_0.blk (0 : Fin 1)).view.emb (ix2 t d) = ix2 t d := by
      funext a; apply Fin.ext
      refine (ValueKit.view_emb_slice_whole_unit_val main_arg0 _ _ _ _ a).trans ?_
      match a with
      | ⟨0, _⟩ => show 0 * 512 + t.val = t.val; omega
      | ⟨1, _⟩ => show 0 * 256 + d.val = d.val; omega
    refine Eq.trans (b := m ((c.tc : Thread nD τ).loc main_arg0) (ix2 t d)) (congrArg (m ((c.tc : Thread nD τ).loc main_arg0)) hi) ?_
    rw [hX c]
    refine congrArg X ?_
    funext a
    match a with
    | ⟨0, _⟩ => rfl
    | ⟨1, _⟩ => rfl
  route c t := by
    have hi : (win0_1.blk (0 : Fin 1)).view.emb (ix2 t (0 : Fin 1)) = ix2 t (0 : Fin 1) := by
      funext a; apply Fin.ext
      refine (ValueKit.view_emb_slice_whole_unit_val main_arg2 _ _ _ _ a).trans ?_
      match a with
      | ⟨0, _⟩ => show 0 * 512 + t.val = t.val; omega
      | ⟨1, _⟩ => rfl
    refine Eq.trans (b := m ((c.tc : Thread nD τ).loc main_arg2) (ix2 t (0 : Fin 1))) (congrArg (m ((c.tc : Thread nD τ).loc main_arg2)) hi) ?_
    rw [hI c]
    refine congrArg I ?_
    funext a
    match a with
    | ⟨0, _⟩ => rfl
    | ⟨1, _⟩ => rfl
  wgt s j d f := by
    have hi : (win0_2.blk (0 : Fin 1)).view.emb (ix3 j d f) = ix3 j d f := by
      funext a; apply Fin.ext
      refine (ValueKit.view_emb_slice_whole_unit_val main_arg3 _ _ _ _ a).trans ?_
      match a with
      | ⟨0, _⟩ => show 0 * 4 + j.val = j.val; omega
      | ⟨1, _⟩ => show 0 * 256 + d.val = d.val; omega
      | ⟨2, _⟩ => show 0 * 512 + f.val = f.val; omega
    refine Eq.trans (b := m ((s.tc : Thread nD τ).loc main_arg3) (ix3 j d f)) (congrArg (m ((s.tc : Thread nD τ).loc main_arg3)) hi) ?_
    rw [hW s]
    refine congrArg W ?_
    funext a
    match a with
    | ⟨0, _⟩ => rfl
    | ⟨1, _⟩ => rfl
    | ⟨2, _⟩ => rfl

variable {m ρ} {X : FVec Ideal ⟨2, ![4096, 256]⟩ .bf16} {I : IVec ⟨2, ![4096, 1]⟩ 32} {W : FVec Ideal ⟨3, ![32, 256, 512]⟩ .bf16}

theorem Cut.goes (h : Cut m ρ X I W) (c : Dev nD) (t : Fin 512) (e : Fin 32) :
    MoE.goes m ρ c t e ↔ Cert.ReferenceIdeal.MoE.goes I (row c t) e := by
  unfold MoE.goes
  rw [h.route]

/-- The earlier tokens that go to an expert: those of the devices before, and those before on the device itself. -/
theorem earlier_eq (h : Cut m ρ X I W) (c : Dev nD) (t : Fin 512) (e : Fin 32) :
    Cert.ReferenceIdeal.MoE.earlier I (row c t) e = prior m ρ c e + rank m ρ c t e := by
  have hr : rank m ρ c t e = ∑ s : Dev nD, if s = c then rank m ρ s t e else 0 := by
    rw [Finset.sum_ite_eq' Finset.univ c, if_pos (Finset.mem_univ c)]
  unfold Cert.ReferenceIdeal.MoE.earlier prior
  rw [hr, ← Finset.sum_add_distrib,
    ← sum_blocks (n := 512) rfl fun i => if i < row c t ∧ Cert.ReferenceIdeal.MoE.goes I i e then 1 else 0]
  refine Finset.sum_congr rfl fun s _ => ?_
  have hs : (∑ k : Fin 512, if row s k < row c t ∧ Cert.ReferenceIdeal.MoE.goes I (row s k) e then 1 else 0)
      = ∑ k : Fin 512, if (s.val < c.val ∨ (s = c ∧ k.val < t.val)) ∧ MoE.goes m ρ s k e then 1 else 0 :=
    Finset.sum_congr rfl fun k _ => if_congr (and_congr row_lt (h.goes s k e).symm) rfl rfl
  refine hs.trans ?_
  by_cases h1 : s.val < c.val
  · have h2 : ¬ s = c := fun h => by rw [h] at h1; exact Nat.lt_irrefl _ h1
    rw [if_pos h1, if_neg h2, Nat.add_zero]
    exact Finset.sum_congr rfl fun k _ => if_congr ⟨And.right, fun g => ⟨Or.inl h1, g⟩⟩ rfl rfl
  · rw [if_neg h1, Nat.zero_add]
    by_cases h2 : s = c
    · rw [if_pos h2]
      exact Finset.sum_congr rfl fun k _ => if_congr (and_congr_left fun _ => ⟨fun g => (g.resolve_left h1).2, fun g => Or.inr ⟨h2, g⟩⟩) rfl rfl
    · rw [if_neg h2]
      exact Finset.sum_eq_zero fun k _ => if_neg fun g => g.1.elim h1 fun g => h2 g.1

/-- The kernel's sum before the mask, over all experts. -/
theorem acc_eq (h : Cut m ρ X I W) (c : Dev nD) (t f : Fin 512) :
    (val711 m ρ c (ix2 t f) : EReal) = ∑ e : Fin 32, (if MoE.goes m ρ c t e then (1 : EReal) else 0)
      * ∑ d : Fin 256, (X (ix2 (row c t) d) : EReal) * (W (ix3 e d f) : EReal) := by
  rw [acc_apply, ← sum_blocks (n := 4) rfl fun e : Fin 32 => (if MoE.goes m ρ c t e then (1 : EReal) else 0)
      * ∑ d : Fin 256, (X (ix2 (row c t) d) : EReal) * (W (ix3 e d f) : EReal)]
  refine Finset.sum_congr rfl fun s _ => Finset.sum_congr rfl fun j _ => ?_
  refine congrArg₂ (· * ·) rfl (Finset.sum_congr rfl fun d _ => ?_)
  rw [h.tok, h.wgt]
  rfl

/-- The two results agree at every token and feature. -/
theorem out_eq (h : Cut m ρ X I W) (c : Dev nD) (t f : Fin 512) :
    (outAt m ρ c (ix2 t f) : EReal) = (Cert.ReferenceIdeal.MoE.out X I W (ix2 (row c t) f) : EReal) := by
  rw [Cert.ReferenceIdeal.MoE.out_apply]
  by_cases hg : ∃ e : Fin 32, MoE.goes m ρ c t e
  · obtain ⟨e, he⟩ := hg
    rw [MoE.out_apply m ρ he f, acc_eq h, ← earlier_eq h]
    have hone : ∀ e' : Fin 32, e' ≠ e → ¬ MoE.goes m ρ c t e' := fun e' hne h' => hne (ofNat_inj (h'.symm.trans he))
    rw [Finset.sum_eq_single e (fun e' _ hne => by rw [if_neg (hone e' hne), zero_mul]) (fun hne => absurd (Finset.mem_univ e) hne),
      Finset.sum_eq_single e (fun e' _ hne => if_neg fun g => hone e' hne ((h.goes c t e').mpr g.1)) (fun hne => absurd (Finset.mem_univ e) hne),
      if_pos he, one_mul]
    by_cases hk : Cert.ReferenceIdeal.MoE.earlier I (row c t) e < 102
    · rw [if_pos hk, one_mul, if_pos ⟨(h.goes c t e).mp he, hk⟩]
    · rw [if_neg hk, zero_mul, if_neg fun g => hk g.2]
  · have hz : (val711 m ρ c (ix2 t f) : EReal) = 0 := by
      rw [acc_eq h]
      exact Finset.sum_eq_zero fun e _ => by rw [if_neg fun g => hg ⟨e, g⟩, zero_mul]
    obtain ⟨k, hk⟩ := out_mask m ρ c t f
    rw [hk, hz, mul_zero]
    exact (Finset.sum_eq_zero fun e _ => if_neg fun g => hg ⟨e, (h.goes c t e).mpr g.1⟩).symm

/-- Device `c`'s result is its block of the reference's. -/
theorem outAt_eq_block (h : Cut m ρ X I W) (c : Dev nD) :
    outAt m ρ c = Layout.block ⟨2, ![512, 512]⟩ ⟨2, ![4096, 512]⟩ 0 8 c (Cert.ReferenceIdeal.MoE.out X I W) := by
  funext i
  obtain ⟨t, f, rfl⟩ : ∃ t f : Fin 512, i = ix2 t f := ⟨i 0, i 1, by
    funext a
    match a with
    | ⟨0, _⟩ => rfl
    | ⟨1, _⟩ => rfl⟩
  refine (out_eq h c t f).trans (congrArg (Cert.ReferenceIdeal.MoE.out X I W) ?_)
  funext a
  match a with
  | ⟨0, _⟩ => rfl
  | ⟨1, _⟩ => rfl

end Cert.KernelIdeal.MoE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealEquation
public import Idealize.ShloMosaic.Adequacy
public import Idealize.ShloMosaic.Init

@[expose] public section

noncomputable section

namespace Cert.Proof

open Idealize.ShloMosaic Idealize.SL.Sem Cert.Kernel

/-- The kernel as it stands: `Cert.Kernel.MoE.run_main` with the result's value dropped. -/
theorem frame_kernel : Cert.quiescent_Kernel := fun m ρ _ =>
  (θ_run Cert.Kernel.defs _ _).mono (fun _ h => ⟨fun c => (h.1 c).2, h.2⟩) (Cert.Kernel.MoE.run_main (F := Bits) m ρ)

/-- The kernel read over the reals: `Cert.KernelIdeal.MoE.run_main` with the result's value dropped. -/
theorem frame_kernelIdeal : Cert.quiescent_KernelIdeal := fun m ρ _ =>
  (θ_run Cert.KernelIdeal.defs _ _).mono (fun _ h => ⟨fun c => (h.1 c).2, h.2⟩) (Cert.KernelIdeal.MoE.run_main (F := Ideal) m ρ)

/-- The reference is a straight-line host program that declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Read over the reals, every device's result is its block of the reference's result. -/
theorem algebraic : Cert.algebraic_KernelIdeal_ReferenceIdeal := fun m ρ m' ρ' _ hm => by
  have hcut := Cert.KernelIdeal.MoE.cut_of_blocks m ρ _ _ _ (fun c => (hm c).1) (fun c => (hm c).2.2.1) (fun c => (hm c).2.2.2)
  refine ⟨_, (θ_run Cert.KernelIdeal.defs _ _).mono (fun _ h c => ⟨(h.1 c).1.trans (Cert.KernelIdeal.MoE.outAt_eq_block hcut c), (h.1 c).2⟩)
      (Cert.KernelIdeal.MoE.run_main (F := Ideal) m ρ), ?_⟩
  exact (θ_run Cert.ReferenceIdeal.defs _ _).mono (fun _ h => h 0) (Cert.ReferenceIdeal.Value.run (F := Ideal) m' ρ')

/-- The claim, with the witnesses of the programs' side conditions. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
